-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v3_1)) (v7 : (c : Dev Cert.KernelIdeal.nD) → Buf (Elt Ideal) ((c.tc : Thread Cert.KernelIdeal.nD Cert.KernelIdeal.τ).loc Cert.KernelIdeal.main_v3_2)) (v8 : (c : Dev Cert.KernelIdeal.nD) → Buf (Elt Ideal) ((c.tc : Thread Cert.KernelIdeal.nD Cert.KernelIdeal.τ).loc Cert.KernelIdeal.main_v3_3)) (v9 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v3_1) = v6 c
          ∧ r.2.mem ((c.tc : Thread Cert.KernelIdeal.nD Cert.KernelIdeal.τ).loc Cert.KernelIdeal.main_v3_2) = v7 c
          ∧ r.2.mem ((c.tc : Thread Cert.KernelIdeal.nD Cert.KernelIdeal.τ).loc Cert.KernelIdeal.main_v3_3) = v8 c
          ∧ r.2.mem ((c.tc : Thread Cert.KernelIdeal.nD Cert.KernelIdeal.τ).loc Cert.KernelIdeal.main_v3_4) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_v74) = v6 c
          ∧ r.2.mem ((c.tc : Thread Cert.ReferenceIdeal.nD Cert.ReferenceIdeal.τ).loc Cert.ReferenceIdeal.main_v67) = v7 c
          ∧ r.2.mem ((c.tc : Thread Cert.ReferenceIdeal.nD Cert.ReferenceIdeal.τ).loc Cert.ReferenceIdeal.main_v112) = v8 c
          ∧ r.2.mem ((c.tc : Thread Cert.ReferenceIdeal.nD Cert.ReferenceIdeal.τ).loc Cert.ReferenceIdeal.main_v94) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x16x128 : Shape := ⟨4, ![3, 8192, 16, 128]⟩
abbrev S3x16x128 : Shape := ⟨3, ![3, 16, 128]⟩
abbrev S1x400x16x128 : Shape := ⟨4, ![1, 400, 16, 128]⟩
abbrev S1x16x128 : Shape := ⟨3, ![1, 16, 128]⟩
abbrev S16x128 : Shape := ⟨2, ![16, 128]⟩
abbrev S1x1x16x128 : Shape := ⟨4, ![1, 1, 16, 128]⟩
abbrev S3x820x16x128 : Shape := ⟨4, ![3, 820, 16, 128]⟩
abbrev S3x4096x16x128 : Shape := ⟨4, ![3, 4096, 16, 128]⟩
abbrev S1x40x16x128 : Shape := ⟨4, ![1, 40, 16, 128]⟩
abbrev S1x200x16x128 : Shape := ⟨4, ![1, 200, 16, 128]⟩

abbrev nBuf : Space → Nat
  | .hbm => 14
  | .vmem => 36
  | .smem => 0
  | _ => 0

abbrev bufTy : (tb : Table) → Fin (tcTables nBuf tb) → BufTy
  | .hbm, ⟨0, _⟩ => ⟨S3x8192x16x128, .bf16⟩
  | .hbm, ⟨1, _⟩ => ⟨S3x8192x16x128, .bf16⟩
  | .hbm, ⟨2, _⟩ => ⟨S3x16x128, .f32⟩
  | .hbm, ⟨3, _⟩ => ⟨S3x8192x16x128, .bf16⟩
  | .hbm, ⟨4, _⟩ => ⟨S3x820x16x128, .i8⟩
  | .hbm, ⟨5, _⟩ => ⟨S3x16x128, .f32⟩
  | .hbm, ⟨6, _⟩ => ⟨S3x4096x16x128, .i8⟩
  | .hbm, ⟨7, _⟩ => ⟨S3x820x16x128, .f32⟩
  | .hbm, ⟨8, _⟩ => ⟨S3x16x128, .f32⟩
  | .hbm, ⟨9, _⟩ => ⟨S3x8192x16x128, .bf16⟩
  | .hbm, ⟨10, _⟩ => ⟨S3x820x16x128, .i8⟩
  | .hbm, ⟨11, _⟩ => ⟨S3x16x128, .f32⟩
  | .hbm, ⟨12, _⟩ => ⟨S3x4096x16x128, .i8⟩
  | .hbm, ⟨13, _⟩ => ⟨S3x820x16x128, .f32⟩
  | .local _ .vmem, ⟨0, _⟩ => ⟨S1x400x16x128, .bf16⟩
  | .local _ .vmem, ⟨1, _⟩ => ⟨S1x400x16x128, .bf16⟩
  | .local _ .vmem, ⟨2, _⟩ => ⟨S1x16x128, .f32⟩
  | .local _ .vmem, ⟨3, _⟩ => ⟨S1x16x128, .f32⟩
  | .local _ .vmem, ⟨4, _⟩ => ⟨S1x400x16x128, .bf16⟩
  | .local _ .vmem, ⟨5, _⟩ => ⟨S1x400x16x128, .bf16⟩
  | .local _ .vmem, ⟨6, _⟩ => ⟨S1x16x128, .f32⟩
  | .local _ .vmem, ⟨7, _⟩ => ⟨S1x16x128, .f32⟩
  | .local _ .vmem, ⟨8, _⟩ => ⟨S1x400x16x128, .bf16⟩
  | .local _ .vmem, ⟨9, _⟩ => ⟨S1x400x16x128, .bf16⟩
  | .local _ .vmem, ⟨10, _⟩ => ⟨S1x40x16x128, .i8⟩
  | .local _ .vmem, ⟨11, _⟩ => ⟨S1x40x16x128, .i8⟩
  | .local _ .vmem, ⟨12, _⟩ => ⟨S1x16x128, .f32⟩
  | .local _ .vmem, ⟨13, _⟩ => ⟨S1x16x128, .f32⟩
  | .local _ .vmem, ⟨14, _⟩ => ⟨S1x200x16x128, .i8⟩
  | .local _ .vmem, ⟨15, _⟩ => ⟨S1x200x16x128, .i8⟩
  | .local _ .vmem, ⟨16, _⟩ => ⟨S1x40x16x128, .f32⟩
  | .local _ .vmem, ⟨17, _⟩ => ⟨S1x40x16x128, .f32⟩
  | .local _ .vmem, ⟨18, _⟩ => ⟨S1x400x16x128, .bf16⟩
  | .local _ .vmem, ⟨19, _⟩ => ⟨S1x400x16x128, .bf16⟩
  | .local _ .vmem, ⟨20, _⟩ => ⟨S1x16x128, .f32⟩
  | .local _ .vmem, ⟨21, _⟩ => ⟨S1x16x128, .f32⟩
  | .local _ .vmem, ⟨22, _⟩ => ⟨S1x400x16x128, .bf16⟩
  | .local _ .vmem, ⟨23, _⟩ => ⟨S1x400x16x128, .bf16⟩
  | .local _ .vmem, ⟨24, _⟩ => ⟨S1x16x128, .f32⟩
  | .local _ .vmem, ⟨25, _⟩ => ⟨S1x16x128, .f32⟩
  | .local _ .vmem, ⟨26, _⟩ => ⟨S1x400x16x128, .bf16⟩
  | .local _ .vmem, ⟨27, _⟩ => ⟨S1x400x16x128, .bf16⟩
  | .local _ .vmem, ⟨28, _⟩ => ⟨S1x40x16x128, .i8⟩
  | .local _ .vmem, ⟨29, _⟩ => ⟨S1x40x16x128, .i8⟩
  | .local _ .vmem, ⟨30, _⟩ => ⟨S1x16x128, .f32⟩
  | .local _ .vmem, ⟨31, _⟩ => ⟨S1x16x128, .f32⟩
  | .local _ .vmem, ⟨32, _⟩ => ⟨S1x200x16x128, .i8⟩
  | .local _ .vmem, ⟨33, _⟩ => ⟨S1x200x16x128, .i8⟩
  | .local _ .vmem, ⟨34, _⟩ => ⟨S1x40x16x128, .f32⟩
  | .local _ .vmem, ⟨35, _⟩ => ⟨S1x40x16x128, .f32⟩
  | _, _ => ⟨S3x8192x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨2, ![3, 21], ![false, false]⟩

@[reducible] def k0_t1_loop (i : grid0.Coords) : Scf.Loop 32 :=
  let c0_i32_4 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c9_i32 : BitVec 32 := 9#32
  let v6 : BitVec 32 := Scalar.addi v2 c9_i32
  let c10_i32 : BitVec 32 := 10#32
  let v7 : BitVec 32 := Scalar.divsi v6 c10_i32
  let v10 : BitVec 32 := Scalar.subi v7 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_5 : BitVec 32 := 1#32
  ⟨c0_i32_4, v14, c1_i32_5⟩
def k0_off1 (i : grid0.Coords) (k0_t1 : Fin (k0_t1_loop i).trips) : Fin 4 → Nat :=
  let c0_11 : Index := 0#32
  let c0_i32_4 : BitVec 32 := 0#32
  let c1_i32_5 : BitVec 32 := 1#32
  let arg4 : BitVec 32 := Scf.iv c0_i32_4 c1_i32_5 k0_t1
  let c10_i32_10 : BitVec 32 := 10#32
  let v20 : BitVec 32 := Scalar.muli arg4 c10_i32_10
  let v21 : Index := Scalar.indexCast v20
  let c0_12 : Index := 0#32
  let c0_13 : Index := 0#32
  ![0, v21.toNat, 0, 0]
@[reducible] def k0_t2_loop (i : grid0.Coords) : Scf.Loop 32 :=
  let c0_i32_4 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c9_i32 : BitVec 32 := 9#32
  let v6 : BitVec 32 := Scalar.addi v2 c9_i32
  let c10_i32 : BitVec 32 := 10#32
  let v7 : BitVec 32 := Scalar.divsi v6 c10_i32
  let v10 : BitVec 32 := Scalar.subi v7 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let v11 : BitVec 32 := Scalar.addi c0_i32_4 v10
  let c1_i32_6 : BitVec 32 := 1#32
  ⟨v14, v11, c1_i32_6⟩
def k0_off2 (i : grid0.Coords) (k0_t2 : Fin (k0_t2_loop i).trips) : Fin 4 → Nat :=
  let c0_11 : Index := 0#32
  let c0_i32_4 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c9_i32 : BitVec 32 := 9#32
  let v6 : BitVec 32 := Scalar.addi v2 c9_i32
  let c10_i32 : BitVec 32 := 10#32
  let v7 : BitVec 32 := Scalar.divsi v6 c10_i32
  let v10 : BitVec 32 := Scalar.subi v7 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_6 : BitVec 32 := 1#32
  let arg4 : BitVec 32 := Scf.iv v14 c1_i32_6 k0_t2
  let c10_i32_10 : BitVec 32 := 10#32
  let v20 : BitVec 32 := Scalar.muli arg4 c10_i32_10
  let v21 : Index := Scalar.indexCast v20
  let c0_12 : Index := 0#32
  let c0_13 : Index := 0#32
  ![0, v21.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x400x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![3, 21], ![false, false]⟩

@[reducible] def k1_t1_loop (i : grid1.Coords) : Scf.Loop 32 :=
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_9 : BitVec 32 := 1#32
  ⟨c0_i32, v20, c1_i32_9⟩
def k1_off1 (i : grid1.Coords) (k1_t1 : Fin (k1_t1_loop i).trips) (c0_i32_12 : BitVec 32) (c0_i32_13 : BitVec 32) : Fin 4 → Nat :=
  let c0_15 : Index := 0#32
  let c0_i32 : BitVec 32 := 0#32
  let c1_i32_9 : BitVec 32 := 1#32
  let arg9 : BitVec 32 := Scf.iv c0_i32 c1_i32_9 k1_t1
  let c20_i32_11 : BitVec 32 := 20#32
  let v23 : BitVec 32 := Scalar.muli arg9 c20_i32_11
  let v24 : BitVec 32 := Scalar.addi v23 c0_i32_12
  let v25 : BitVec 32 := Scalar.addi v24 c0_i32_13
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c1_i32_14 : BitVec 32 := 1#32
  let v26 : BitVec 32 := Scalar.subi v2 c1_i32_14
  let v27 : BitVec 32 := Scalar.minsi v25 v26
  let v28 : Index := Scalar.indexCast v27
  let c0_16 : Index := 0#32
  let c0_17 : Index := 0#32
  ![0, v28.toNat, 0, 0]
def k1_off2 (i : grid1.Coords) (k1_t1 : Fin (k1_t1_loop i).trips) (c0_i32_58 : BitVec 32) : Fin 4 → Nat :=
  let c0_59 : Index := 0#32
  let c2_i32_57 : BitVec 32 := 2#32
  let c0_i32 : BitVec 32 := 0#32
  let c1_i32_9 : BitVec 32 := 1#32
  let arg9 : BitVec 32 := Scf.iv c0_i32 c1_i32_9 k1_t1
  let v111 : BitVec 32 := Scalar.muli c2_i32_57 arg9
  let v112 : BitVec 32 := Scalar.addi v111 c0_i32_58
  let v113 : Index := Scalar.indexCast v112
  let c0_60 : Index := 0#32
  let c0_61 : Index := 0#32
  ![0, v113.toNat, 0, 0]
def k1_off3 (i : grid1.Coords) (k1_t1 : Fin (k1_t1_loop i).trips) (c0_i32_12 : BitVec 32) (c0_i32_72 : BitVec 32) : Fin 4 → Nat :=
  let c0_73 : Index := 0#32
  let c0_i32 : BitVec 32 := 0#32
  let c1_i32_9 : BitVec 32 := 1#32
  let arg9 : BitVec 32 := Scf.iv c0_i32 c1_i32_9 k1_t1
  let c20_i32_11 : BitVec 32 := 20#32
  let v23 : BitVec 32 := Scalar.muli arg9 c20_i32_11
  let v24 : BitVec 32 := Scalar.addi v23 c0_i32_12
  let v146 : BitVec 32 := Scalar.addi v24 c0_i32_72
  let v147 : Index := Scalar.indexCast v146
  let c0_74 : Index := 0#32
  let c0_75 : Index := 0#32
  ![0, v147.toNat, 0, 0]
def k1_off4 (i : grid1.Coords) (k1_t1 : Fin (k1_t1_loop i).trips) (c0_i32_259 : BitVec 32) : Fin 4 → Nat :=
  let c0_260 : Index := 0#32
  let c0_i32 : BitVec 32 := 0#32
  let c1_i32_9 : BitVec 32 := 1#32
  let arg9 : BitVec 32 := Scf.iv c0_i32 c1_i32_9 k1_t1
  let c10_i32_258 : BitVec 32 := 10#32
  let v595 : BitVec 32 := Scalar.muli arg9 c10_i32_258
  let v596 : BitVec 32 := Scalar.addi v595 c0_i32_259
  let v597 : Index := Scalar.indexCast v596
  let c0_261 : Index := 0#32
  let c0_262 : Index := 0#32
  ![0, v597.toNat, 0, 0]
@[reducible] def k1_t2_loop (i : grid1.Coords) : Scf.Loop 32 :=
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_10 : BitVec 32 := 1#32
  ⟨v20, v17, c1_i32_10⟩
def k1_off5 (i : grid1.Coords) (k1_t2 : Fin (k1_t2_loop i).trips) (c0_i32_12 : BitVec 32) (c0_i32_13 : BitVec 32) : Fin 4 → Nat :=
  let c0_15 : Index := 0#32
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k1_t2
  let c20_i32_11 : BitVec 32 := 20#32
  let v23 : BitVec 32 := Scalar.muli arg9 c20_i32_11
  let v24 : BitVec 32 := Scalar.addi v23 c0_i32_12
  let v25 : BitVec 32 := Scalar.addi v24 c0_i32_13
  let c1_i32_14 : BitVec 32 := 1#32
  let v26 : BitVec 32 := Scalar.subi v2 c1_i32_14
  let v27 : BitVec 32 := Scalar.minsi v25 v26
  let v28 : Index := Scalar.indexCast v27
  let c0_16 : Index := 0#32
  let c0_17 : Index := 0#32
  ![0, v28.toNat, 0, 0]
def k1_off6 (i : grid1.Coords) (k1_t2 : Fin (k1_t2_loop i).trips) (c0_i32_58 : BitVec 32) : Fin 4 → Nat :=
  let c0_59 : Index := 0#32
  let c2_i32_57 : BitVec 32 := 2#32
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k1_t2
  let v111 : BitVec 32 := Scalar.muli c2_i32_57 arg9
  let v112 : BitVec 32 := Scalar.addi v111 c0_i32_58
  let v113 : Index := Scalar.indexCast v112
  let c0_60 : Index := 0#32
  let c0_61 : Index := 0#32
  ![0, v113.toNat, 0, 0]
def k1_off7 (i : grid1.Coords) (k1_t2 : Fin (k1_t2_loop i).trips) (c0_i32_12 : BitVec 32) (c0_i32_72 : BitVec 32) : Fin 4 → Nat :=
  let c0_73 : Index := 0#32
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k1_t2
  let c20_i32_11 : BitVec 32 := 20#32
  let v23 : BitVec 32 := Scalar.muli arg9 c20_i32_11
  let v24 : BitVec 32 := Scalar.addi v23 c0_i32_12
  let v146 : BitVec 32 := Scalar.addi v24 c0_i32_72
  let v147 : Index := Scalar.indexCast v146
  let c0_74 : Index := 0#32
  let c0_75 : Index := 0#32
  ![0, v147.toNat, 0, 0]
def k1_off8 (i : grid1.Coords) (k1_t2 : Fin (k1_t2_loop i).trips) (c0_i32_259 : BitVec 32) : Fin 4 → Nat :=
  let c0_260 : Index := 0#32
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k1_t2
  let c10_i32_258 : BitVec 32 := 10#32
  let v595 : BitVec 32 := Scalar.muli arg9 c10_i32_258
  let v596 : BitVec 32 := Scalar.addi v595 c0_i32_259
  let v597 : Index := Scalar.indexCast v596
  let c0_261 : Index := 0#32
  let c0_262 : Index := 0#32
  ![0, v597.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x400x16x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x400x16x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x40x16x128 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x16x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x200x16x128 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x40x16x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![3, 21], ![false, false]⟩

@[reducible] def k2_t1_loop (i : grid2.Coords) : Scf.Loop 32 :=
  let c0_i32_4 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c9_i32 : BitVec 32 := 9#32
  let v6 : BitVec 32 := Scalar.addi v2 c9_i32
  let c10_i32 : BitVec 32 := 10#32
  let v7 : BitVec 32 := Scalar.divsi v6 c10_i32
  let v10 : BitVec 32 := Scalar.subi v7 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_5 : BitVec 32 := 1#32
  ⟨c0_i32_4, v14, c1_i32_5⟩
def k2_off1 (i : grid2.Coords) (k2_t1 : Fin (k2_t1_loop i).trips) : Fin 4 → Nat :=
  let c0_11 : Index := 0#32
  let c0_i32_4 : BitVec 32 := 0#32
  let c1_i32_5 : BitVec 32 := 1#32
  let arg4 : BitVec 32 := Scf.iv c0_i32_4 c1_i32_5 k2_t1
  let c10_i32_10 : BitVec 32 := 10#32
  let v20 : BitVec 32 := Scalar.muli arg4 c10_i32_10
  let v21 : Index := Scalar.indexCast v20
  let c0_12 : Index := 0#32
  let c0_13 : Index := 0#32
  ![0, v21.toNat, 0, 0]
@[reducible] def k2_t2_loop (i : grid2.Coords) : Scf.Loop 32 :=
  let c0_i32_4 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c9_i32 : BitVec 32 := 9#32
  let v6 : BitVec 32 := Scalar.addi v2 c9_i32
  let c10_i32 : BitVec 32 := 10#32
  let v7 : BitVec 32 := Scalar.divsi v6 c10_i32
  let v10 : BitVec 32 := Scalar.subi v7 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let v11 : BitVec 32 := Scalar.addi c0_i32_4 v10
  let c1_i32_6 : BitVec 32 := 1#32
  ⟨v14, v11, c1_i32_6⟩
def k2_off2 (i : grid2.Coords) (k2_t2 : Fin (k2_t2_loop i).trips) : Fin 4 → Nat :=
  let c0_11 : Index := 0#32
  let c0_i32_4 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c9_i32 : BitVec 32 := 9#32
  let v6 : BitVec 32 := Scalar.addi v2 c9_i32
  let c10_i32 : BitVec 32 := 10#32
  let v7 : BitVec 32 := Scalar.divsi v6 c10_i32
  let v10 : BitVec 32 := Scalar.subi v7 c0_i32_4
  let c1_i32 : BitVec 32 := 1#32
  let v12 : BitVec 32 := Scalar.divsi v10 c1_i32
  let v13 : BitVec 32 := Scalar.muli v12 c1_i32
  let v14 : BitVec 32 := Scalar.addi c0_i32_4 v13
  let c1_i32_6 : BitVec 32 := 1#32
  let arg4 : BitVec 32 := Scf.iv v14 c1_i32_6 k2_t2
  let c10_i32_10 : BitVec 32 := 10#32
  let v20 : BitVec 32 := Scalar.muli arg4 c10_i32_10
  let v21 : Index := Scalar.indexCast v20
  let c0_12 : Index := 0#32
  let c0_13 : Index := 0#32
  ![0, v21.toNat, 0, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x400x16x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![3, 21], ![false, false]⟩

@[reducible] def k3_t1_loop (i : grid3.Coords) : Scf.Loop 32 :=
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_9 : BitVec 32 := 1#32
  ⟨c0_i32, v20, c1_i32_9⟩
def k3_off1 (i : grid3.Coords) (k3_t1 : Fin (k3_t1_loop i).trips) (c0_i32_12 : BitVec 32) (c0_i32_13 : BitVec 32) : Fin 4 → Nat :=
  let c0_15 : Index := 0#32
  let c0_i32 : BitVec 32 := 0#32
  let c1_i32_9 : BitVec 32 := 1#32
  let arg9 : BitVec 32 := Scf.iv c0_i32 c1_i32_9 k3_t1
  let c20_i32_11 : BitVec 32 := 20#32
  let v23 : BitVec 32 := Scalar.muli arg9 c20_i32_11
  let v24 : BitVec 32 := Scalar.addi v23 c0_i32_12
  let v25 : BitVec 32 := Scalar.addi v24 c0_i32_13
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c1_i32_14 : BitVec 32 := 1#32
  let v26 : BitVec 32 := Scalar.subi v2 c1_i32_14
  let v27 : BitVec 32 := Scalar.minsi v25 v26
  let v28 : Index := Scalar.indexCast v27
  let c0_16 : Index := 0#32
  let c0_17 : Index := 0#32
  ![0, v28.toNat, 0, 0]
def k3_off2 (i : grid3.Coords) (k3_t1 : Fin (k3_t1_loop i).trips) (c0_i32_58 : BitVec 32) : Fin 4 → Nat :=
  let c0_59 : Index := 0#32
  let c2_i32_57 : BitVec 32 := 2#32
  let c0_i32 : BitVec 32 := 0#32
  let c1_i32_9 : BitVec 32 := 1#32
  let arg9 : BitVec 32 := Scf.iv c0_i32 c1_i32_9 k3_t1
  let v111 : BitVec 32 := Scalar.muli c2_i32_57 arg9
  let v112 : BitVec 32 := Scalar.addi v111 c0_i32_58
  let v113 : Index := Scalar.indexCast v112
  let c0_60 : Index := 0#32
  let c0_61 : Index := 0#32
  ![0, v113.toNat, 0, 0]
def k3_off3 (i : grid3.Coords) (k3_t1 : Fin (k3_t1_loop i).trips) (c0_i32_12 : BitVec 32) (c0_i32_72 : BitVec 32) : Fin 4 → Nat :=
  let c0_73 : Index := 0#32
  let c0_i32 : BitVec 32 := 0#32
  let c1_i32_9 : BitVec 32 := 1#32
  let arg9 : BitVec 32 := Scf.iv c0_i32 c1_i32_9 k3_t1
  let c20_i32_11 : BitVec 32 := 20#32
  let v23 : BitVec 32 := Scalar.muli arg9 c20_i32_11
  let v24 : BitVec 32 := Scalar.addi v23 c0_i32_12
  let v146 : BitVec 32 := Scalar.addi v24 c0_i32_72
  let v147 : Index := Scalar.indexCast v146
  let c0_74 : Index := 0#32
  let c0_75 : Index := 0#32
  ![0, v147.toNat, 0, 0]
def k3_off4 (i : grid3.Coords) (k3_t1 : Fin (k3_t1_loop i).trips) (c0_i32_259 : BitVec 32) : Fin 4 → Nat :=
  let c0_260 : Index := 0#32
  let c0_i32 : BitVec 32 := 0#32
  let c1_i32_9 : BitVec 32 := 1#32
  let arg9 : BitVec 32 := Scf.iv c0_i32 c1_i32_9 k3_t1
  let c10_i32_258 : BitVec 32 := 10#32
  let v595 : BitVec 32 := Scalar.muli arg9 c10_i32_258
  let v596 : BitVec 32 := Scalar.addi v595 c0_i32_259
  let v597 : Index := Scalar.indexCast v596
  let c0_261 : Index := 0#32
  let c0_262 : Index := 0#32
  ![0, v597.toNat, 0, 0]
@[reducible] def k3_t2_loop (i : grid3.Coords) : Scf.Loop 32 :=
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_10 : BitVec 32 := 1#32
  ⟨v20, v17, c1_i32_10⟩
def k3_off5 (i : grid3.Coords) (k3_t2 : Fin (k3_t2_loop i).trips) (c0_i32_12 : BitVec 32) (c0_i32_13 : BitVec 32) : Fin 4 → Nat :=
  let c0_15 : Index := 0#32
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k3_t2
  let c20_i32_11 : BitVec 32 := 20#32
  let v23 : BitVec 32 := Scalar.muli arg9 c20_i32_11
  let v24 : BitVec 32 := Scalar.addi v23 c0_i32_12
  let v25 : BitVec 32 := Scalar.addi v24 c0_i32_13
  let c1_i32_14 : BitVec 32 := 1#32
  let v26 : BitVec 32 := Scalar.subi v2 c1_i32_14
  let v27 : BitVec 32 := Scalar.minsi v25 v26
  let v28 : Index := Scalar.indexCast v27
  let c0_16 : Index := 0#32
  let c0_17 : Index := 0#32
  ![0, v28.toNat, 0, 0]
def k3_off6 (i : grid3.Coords) (k3_t2 : Fin (k3_t2_loop i).trips) (c0_i32_58 : BitVec 32) : Fin 4 → Nat :=
  let c0_59 : Index := 0#32
  let c2_i32_57 : BitVec 32 := 2#32
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k3_t2
  let v111 : BitVec 32 := Scalar.muli c2_i32_57 arg9
  let v112 : BitVec 32 := Scalar.addi v111 c0_i32_58
  let v113 : Index := Scalar.indexCast v112
  let c0_60 : Index := 0#32
  let c0_61 : Index := 0#32
  ![0, v113.toNat, 0, 0]
def k3_off7 (i : grid3.Coords) (k3_t2 : Fin (k3_t2_loop i).trips) (c0_i32_12 : BitVec 32) (c0_i32_72 : BitVec 32) : Fin 4 → Nat :=
  let c0_73 : Index := 0#32
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k3_t2
  let c20_i32_11 : BitVec 32 := 20#32
  let v23 : BitVec 32 := Scalar.muli arg9 c20_i32_11
  let v24 : BitVec 32 := Scalar.addi v23 c0_i32_12
  let v146 : BitVec 32 := Scalar.addi v24 c0_i32_72
  let v147 : Index := Scalar.indexCast v146
  let c0_74 : Index := 0#32
  let c0_75 : Index := 0#32
  ![0, v147.toNat, 0, 0]
def k3_off8 (i : grid3.Coords) (k3_t2 : Fin (k3_t2_loop i).trips) (c0_i32_259 : BitVec 32) : Fin 4 → Nat :=
  let c0_260 : Index := 0#32
  let c0_i32 : BitVec 32 := 0#32
  let c400_i32_0 : BitVec 32 := 400#32
  let c8192_i32 : BitVec 32 := 8192#32
  let arg1 : BitVec 32 := BitVec.ofNat 32 (i 1).val
  let c400_i32 : BitVec 32 := 400#32
  let v0 : BitVec 32 := Scalar.muli arg1 c400_i32
  let v1 : BitVec 32 := Scalar.subi c8192_i32 v0
  let v2 : BitVec 32 := Scalar.minsi c400_i32_0 v1
  let c19_i32 : BitVec 32 := 19#32
  let v14 : BitVec 32 := Scalar.addi v2 c19_i32
  let c20_i32 : BitVec 32 := 20#32
  let v15 : BitVec 32 := Scalar.divsi v14 c20_i32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  let arg9 : BitVec 32 := Scf.iv v20 c1_i32_10 k3_t2
  let c10_i32_258 : BitVec 32 := 10#32
  let v595 : BitVec 32 := Scalar.muli arg9 c10_i32_258
  let v596 : BitVec 32 := Scalar.addi v595 c0_i32_259
  let v597 : Index := Scalar.indexCast v596
  let c0_261 : Index := 0#32
  let c0_262 : Index := 0#32
  ![0, v597.toNat, 0, 0]
def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_6 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x400x16x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x16x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x400x16x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x40x16x128 .i8 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x16x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x200x16x128 .i8 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x40x16x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== ReferenceIdeal.lean ====
abbrev S3x8192x16x128 : Shape := ⟨4, ![3, 8192, 16, 128]⟩
abbrev S3x820x16x128 : Shape := ⟨4, ![3, 820, 16, 128]⟩
abbrev S_ : Shape := ⟨0, ![]⟩
abbrev S3x16x128 : Shape := ⟨3, ![3, 16, 128]⟩
abbrev S3x1x16x128 : Shape := ⟨4, ![3, 1, 16, 128]⟩
abbrev S3x820x1x16x128 : Shape := ⟨5, ![3, 820, 1, 16, 128]⟩
abbrev S3x820x10x16x128 : Shape := ⟨5, ![3, 820, 10, 16, 128]⟩
abbrev S3x8200x16x128 : Shape := ⟨4, ![3, 8200, 16, 128]⟩
abbrev S3x4096x16x128 : Shape := ⟨4, ![3, 4096, 16, 128]⟩

abbrev nBuf : Space → Nat
  | .hbm => 180
  | .vmem => 0
  | .smem => 0
  | _ => 0

abbrev hbmTy0_0 (i : Nat) : BufTy := match i % 128 with
  | 0 => ⟨S3x8192x16x128, .bf16⟩
  | 1 => ⟨S3x8192x16x128, .bf16⟩
  | 2 => ⟨S3x820x16x128, .bf16⟩
  | 3 => ⟨S3x820x16x128, .f32⟩
  | 4 => ⟨S3x820x16x128, .f32⟩
  | 5 => ⟨S_, .f32⟩
  | 6 => ⟨S3x16x128, .f32⟩
  | 7 => ⟨S_, .f32⟩
  | 8 => ⟨S3x16x128, .f32⟩
  | 9 => ⟨S3x16x128, .i1⟩
  | 10 => ⟨S_, .f32⟩
  | 11 => ⟨S3x16x128, .f32⟩
  | 12 => ⟨S3x16x128, .f32⟩
  | 13 => ⟨S_, .f32⟩
  | 14 => ⟨S_, .f32⟩
  | 15 => ⟨S3x16x128, .f32⟩
  | 16 => ⟨S3x16x128, .f32⟩
  | 17 => ⟨S3x1x16x128, .f32⟩
  | 18 => ⟨S3x820x16x128, .f32⟩
  | 19 => ⟨S3x820x16x128, .f32⟩
  | 20 => ⟨S3x820x16x128, .f32⟩
  | 21 => ⟨S_, .f32⟩
  | 22 => ⟨S_, .f32⟩
  | 23 => ⟨S_, .f32⟩
  | 24 => ⟨S3x820x16x128, .f32⟩
  | 25 => ⟨S3x820x16x128, .f32⟩
  | 26 => ⟨S_, .f32⟩
  | 27 => ⟨S3x820x16x128, .f32⟩
  | 28 => ⟨S3x820x16x128, .f32⟩
  | 29 => ⟨S3x820x16x128, .i32⟩
  | 30 => ⟨S3x820x16x128, .i8⟩
  | 31 => ⟨S3x820x16x128, .i32⟩
  | 32 => ⟨S3x820x16x128, .f32⟩
  | 33 => ⟨S3x1x16x128, .f32⟩
  | 34 => ⟨S3x820x16x128, .f32⟩
  | 35 => ⟨S3x820x16x128, .f32⟩
  | 36 => ⟨S3x820x1x16x128, .f32⟩
  | 37 => ⟨S3x820x10x16x128, .f32⟩
  | 38 => ⟨S3x8200x16x128, .f32⟩
  | 39 => ⟨S3x8192x16x128, .f32⟩
  | 40 => ⟨S3x8192x16x128, .f32⟩
  | 41 => ⟨S3x8192x16x128, .f32⟩
  | 42 => ⟨S3x8192x16x128, .f32⟩
  | 43 => ⟨S_, .i32⟩
  | 44 => ⟨S_, .f32⟩
  | 45 => ⟨S3x8200x16x128, .f32⟩
  | 46 => ⟨S3x820x10x16x128, .f32⟩
  | 47 => ⟨S_, .f32⟩
  | 48 => ⟨S3x820x16x128, .f32⟩
  | 49 => ⟨S_, .f32⟩
  | 50 => ⟨S3x820x16x128, .f32⟩
  | 51 => ⟨S3x820x16x128, .i1⟩
  | 52 => ⟨S_, .f32⟩
  | 53 => ⟨S3x820x16x128, .f32⟩
  | 54 => ⟨S3x820x16x128, .f32⟩
  | 55 => ⟨S_, .f32⟩
  | 56 => ⟨S_, .f32⟩
  | 57 => ⟨S3x820x16x128, .f32⟩
  | 58 => ⟨S3x820x16x128, .f32⟩
  | 59 => ⟨S3x820x1x16x128, .f32⟩
  | 60 => ⟨S3x820x10x16x128, .f32⟩
  | 61 => ⟨S3x8200x16x128, .f32⟩
  | 62 => ⟨S3x8192x16x128, .f32⟩
  | 63 => ⟨S3x8192x16x128, .f32⟩
  | 64 => ⟨S3x8192x16x128, .f32⟩
  | 65 => ⟨S_, .f32⟩
  | 66 => ⟨S_, .f32⟩
  | 67 => ⟨S_, .f32⟩
  | 68 => ⟨S3x8192x16x128, .f32⟩
  | 69 => ⟨S3x8192x16x128, .f32⟩
  | 70 => ⟨S_, .f32⟩
  | 71 => ⟨S3x8192x16x128, .f32⟩
  | 72 => ⟨S3x8192x16x128, .f32⟩
  | 73 => ⟨S3x8192x16x128, .i32⟩
  | 74 => ⟨S3x8192x16x128, .i8⟩
  | 75 => ⟨S3x8192x16x128, .i32⟩
  | 76 => ⟨S_, .i32⟩
  | 77 => ⟨S3x8192x16x128, .i32⟩
  | 78 => ⟨S3x8192x16x128, .i32⟩
  | 79 => ⟨S3x4096x16x128, .i32⟩
  | 80 => ⟨S3x4096x16x128, .i32⟩
  | 81 => ⟨S_, .i32⟩
  | 82 => ⟨S3x4096x16x128, .i32⟩
  | 83 => ⟨S3x4096x16x128, .i32⟩
  | 84 => ⟨S3x4096x16x128, .i32⟩
  | 85 => ⟨S3x4096x16x128, .i8⟩
  | 86 => ⟨S3x8192x16x128, .i32⟩
  | 87 => ⟨S3x8192x16x128, .f32⟩
  | 88 => ⟨S3x8192x16x128, .f32⟩
  | 89 => ⟨S3x8192x16x128, .f32⟩
  | 90 => ⟨S3x8192x16x128, .bf16⟩
  | 91 => ⟨S3x820x16x128, .bf16⟩
  | 92 => ⟨S3x820x16x128, .f32⟩
  | 93 => ⟨S3x820x16x128, .f32⟩
  | 94 => ⟨S_, .f32⟩
  | 95 => ⟨S3x16x128, .f32⟩
  | 96 => ⟨S_, .f32⟩
  | 97 => ⟨S3x16x128, .f32⟩
  | 98 => ⟨S3x16x128, .i1⟩
  | 99 => ⟨S_, .f32⟩
  | 100 => ⟨S3x16x128, .f32⟩
  | 101 => ⟨S3x16x128, .f32⟩
  | 102 => ⟨S_, .f32⟩
  | 103 => ⟨S_, .f32⟩
  | 104 => ⟨S3x16x128, .f32⟩
  | 105 => ⟨S3x16x128, .f32⟩
  | 106 => ⟨S3x1x16x128, .f32⟩
  | 107 => ⟨S3x820x16x128, .f32⟩
  | 108 => ⟨S3x820x16x128, .f32⟩
  | 109 => ⟨S3x820x16x128, .f32⟩
  | 110 => ⟨S_, .f32⟩
  | 111 => ⟨S_, .f32⟩
  | 112 => ⟨S_, .f32⟩
  | 113 => ⟨S3x820x16x128, .f32⟩
  | 114 => ⟨S3x820x16x128, .f32⟩
  | 115 => ⟨S_, .f32⟩
  | 116 => ⟨S3x820x16x128, .f32⟩
  | 117 => ⟨S3x820x16x128, .f32⟩
  | 118 => ⟨S3x820x16x128, .i32⟩
  | 119 => ⟨S3x820x16x128, .i8⟩
  | 120 => ⟨S3x820x16x128, .i32⟩
  | 121 => ⟨S3x820x16x128, .f32⟩
  | 122 => ⟨S3x1x16x128, .f32⟩
  | 123 => ⟨S3x820x16x128, .f32⟩
  | 124 => ⟨S3x820x16x128, .f32⟩
  | 125 => ⟨S3x820x1x16x128, .f32⟩
  | 126 => ⟨S3x820x10x16x128, .f32⟩
  | 127 => ⟨S3x8200x16x128, .f32⟩
  | _ => ⟨S3x8192x16x128, .bf16⟩

abbrev hbmTy0_1 (i : Nat) : BufTy := match i % 128 with
  | 0 => ⟨S3x8192x16x128, .f32⟩
  | 1 => ⟨S3x8192x16x128, .f32⟩
  | 2 => ⟨S3x8192x16x128, .f32⟩
  | 3 => ⟨S3x8192x16x128, .f32⟩
  | 4 => ⟨S_, .i32⟩
  | 5 => ⟨S_, .f32⟩
  | 6 => ⟨S3x8200x16x128, .f32⟩
  | 7 => ⟨S3x820x10x16x128, .f32⟩
  | 8 => ⟨S_, .f32⟩
  | 9 => ⟨S3x820x16x128, .f32⟩
  | 10 => ⟨S_, .f32⟩
  | 11 => ⟨S3x820x16x128, .f32⟩
  | 12 => ⟨S3x820x16x128, .i1⟩
  | 13 => ⟨S_, .f32⟩
  | 14 => ⟨S3x820x16x128, .f32⟩
  | 15 => ⟨S3x820x16x128, .f32⟩
  | 16 => ⟨S_, .f32⟩
  | 17 => ⟨S_, .f32⟩
  | 18 => ⟨S3x820x16x128, .f32⟩
  | 19 => ⟨S3x820x16x128, .f32⟩
  | 20 => ⟨S3x820x1x16x128, .f32⟩
  | 21 => ⟨S3x820x10x16x128, .f32⟩
  | 22 => ⟨S3x8200x16x128, .f32⟩
  | 23 => ⟨S3x8192x16x128, .f32⟩
  | 24 => ⟨S3x8192x16x128, .f32⟩
  | 25 => ⟨S3x8192x16x128, .f32⟩
  | 26 => ⟨S_, .f32⟩
  | 27 => ⟨S_, .f32⟩
  | 28 => ⟨S_, .f32⟩
  | 29 => ⟨S3x8192x16x128, .f32⟩
  | 30 => ⟨S3x8192x16x128, .f32⟩
  | 31 => ⟨S_, .f32⟩
  | 32 => ⟨S3x8192x16x128, .f32⟩
  | 33 => ⟨S3x8192x16x128, .f32⟩
  | 34 => ⟨S3x8192x16x128, .i32⟩
  | 35 => ⟨S3x8192x16x128, .i8⟩
  | 36 => ⟨S3x8192x16x128, .i32⟩
  | 37 => ⟨S_, .i32⟩
  | 38 => ⟨S3x8192x16x128, .i32⟩
  | 39 => ⟨S3x8192x16x128, .i32⟩
  | 40 => ⟨S3x4096x16x128, .i32⟩
  | 41 => ⟨S3x4096x16x128, .i32⟩
  | 42 => ⟨S_, .i32⟩
  | 43 => ⟨S3x4096x16x128, .i32⟩
  | 44 => ⟨S3x4096x16x128, .i32⟩
  | 45 => ⟨S3x4096x16x128, .i32⟩
  | 46 => ⟨S3x4096x16x128, .i8⟩
  | 47 => ⟨S3x8192x16x128, .i32⟩
  | 48 => ⟨S3x8192x16x128, .f32⟩
  | 49 => ⟨S3x8192x16x128, .f32⟩
  | 50 => ⟨S3x8192x16x128, .f32⟩
  | 51 => ⟨S3x8192x16x128, .bf16⟩
  | _ => ⟨S3x8192x16x128, .bf16⟩

abbrev hbmTy (i : Nat) : BufTy := match i / 128 with
  | 0 => hbmTy0_0 i
  | 1 => hbmTy0_1 i
  | _ => ⟨S3x8192x16x128, .bf16⟩

abbrev bufTy : (tb : Table) → Fin (tcTables nBuf tb) → BufTy
  | .hbm, ⟨i, _⟩ => hbmTy i
  | _, _ => ⟨S3x8192x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call3_v0 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_call4_v0 : Ref sig .tc := ⟨.hbm, 56, rfl⟩
abbrev main_call4_v1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_cst_10 : Ref sig .tc := ⟨.hbm, 66, rfl⟩
abbrev main_call6_v0 : Ref sig .tc := ⟨.hbm, 67, rfl⟩
abbrev main_call6_v1 : Ref sig .tc := ⟨.hbm, 68, rfl⟩
abbrev main_call6_v2 : Ref sig .tc := ⟨.hbm, 69, rfl⟩
abbrev main_call6_v3 : Ref sig .tc := ⟨.hbm, 70, rfl⟩
abbrev main_call6_v4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_cst_15 : Ref sig .tc := ⟨.hbm, 99, rfl⟩
abbrev main_v65 : Ref sig .tc := ⟨.hbm, 100, rfl⟩
abbrev main_v66 : Ref sig .tc := ⟨.hbm, 101, rfl⟩
abbrev main_cst_16 : Ref sig .tc := ⟨.hbm, 102, rfl⟩
abbrev main_call7_v0 : Ref sig .tc := ⟨.hbm, 103, rfl⟩
abbrev main_call7_v1 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_17 : Ref sig .tc := ⟨.hbm, 110, rfl⟩
abbrev main_cst_18 : Ref sig .tc := ⟨.hbm, 111, rfl⟩
abbrev main_call9_v0 : Ref sig .tc := ⟨.hbm, 112, rfl⟩
abbrev main_call9_v1 : Ref sig .tc := ⟨.hbm, 113, rfl⟩
abbrev main_call9_v2 : Ref sig .tc := ⟨.hbm, 114, rfl⟩
abbrev main_call9_v3 : Ref sig .tc := ⟨.hbm, 115, rfl⟩
abbrev main_call9_v4 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_19 : Ref sig .tc := ⟨.hbm, 132, rfl⟩
abbrev main_call10_v0 : Ref sig .tc := ⟨.hbm, 133, rfl⟩
abbrev main_v87 : Ref sig .tc := ⟨.hbm, 134, rfl⟩
abbrev main_v88 : Ref sig .tc := ⟨.hbm, 135, rfl⟩
abbrev main_cst_20 : Ref sig .tc := ⟨.hbm, 136, rfl⟩
abbrev main_v89 : Ref sig .tc := ⟨.hbm, 137, rfl⟩
abbrev main_cst_21 : Ref sig .tc := ⟨.hbm, 138, rfl⟩
abbrev main_v90 : Ref sig .tc := ⟨.hbm, 139, rfl⟩
abbrev main_v91 : Ref sig .tc := ⟨.hbm, 140, rfl⟩
abbrev main_cst_22 : Ref sig .tc := ⟨.hbm, 141, rfl⟩
abbrev main_v92 : Ref sig .tc := ⟨.hbm, 142, rfl⟩
abbrev main_v93 : Ref sig .tc := ⟨.hbm, 143, rfl⟩
abbrev main_cst_23 : Ref sig .tc := ⟨.hbm, 144, rfl⟩
abbrev main_call11_v0 : Ref sig .tc := ⟨.hbm, 145, rfl⟩
abbrev main_call11_v1 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_24 : Ref sig .tc := ⟨.hbm, 154, rfl⟩
abbrev main_cst_25 : Ref sig .tc := ⟨.hbm, 155, rfl⟩
abbrev main_call13_v0 : Ref sig .tc := ⟨.hbm, 156, rfl⟩
abbrev main_call13_v1 : Ref sig .tc := ⟨.hbm, 157, rfl⟩
abbrev main_call13_v2 : Ref sig .tc := ⟨.hbm, 158, rfl⟩
abbrev main_call13_v3 : Ref sig .tc := ⟨.hbm, 159, rfl⟩
abbrev main_call13_v4 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_c_26 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_c_27 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩

abbrev nD : Nat := 1
abbrev τ : Topo := Topo.v7x

variable {F : FTy → Type} [FloatOps F]
-- ==== Proof.Vals.lean ====
/-
  THE CODEC'S MATHEMATICS, one number at a time, for any float values: the scale of a group from its largest absolute
  value, the rounding to a signed code between two bounds, the anchor's code and what it decodes to, the deltas' scale,
  codes and decoded tokens, and the packing of two four-bit codes into one byte. A group's tokens are a function `x` of
  the place in the group (its anchor at 0).
-/
module

public import proofs.«01_k».proof.Proof.Gen.KernelIdeal.Skeleton
public import Idealize.ShloMosaic.Lib.Pipeline.ValueKit

@[expose] public section

noncomputable section

namespace Cert.Codec

open Idealize.ShloMosaic

variable {F : FTy → Type} [FloatOps F]

/-- A bf16 number as f32. -/
def wide (x : F .bf16) : F .f32 := FloatOps.extf .f32 (by decide) x

/-- A scale: `m` over the number of levels where `m` is positive, else 1. -/
def scaleOf (levels : BitVec 32) (m : F .f32) : F .f32 :=
  Scalar.select (FloatOps.cmpf .ogt m (Scalar.ofBits .f32 0x00000000#32)) (FloatOps.divf m (Scalar.ofBits .f32 levels))
    (Scalar.ofBits .f32 0x3F800000#32)

/-- `v / sc` rounded to the nearest integer (ties to even) and clipped to `[lo, hi]`. -/
def quant (lo hi : BitVec 32) (v sc : F .f32) : F .f32 :=
  FloatOps.minimumf (Scalar.ofBits .f32 hi) (FloatOps.maximumf (Scalar.ofBits .f32 lo) (FloatOps.roundeven (FloatOps.divf v sc)))

/-- The running maximum of the absolute values of the anchors `x 0, …, x (n - 1)`, from 0. -/
def amaxUpTo (x : ℕ → F .bf16) : ℕ → F .f32
  | 0 => Scalar.ofBits .f32 0x00000000#32
  | n + 1 => FloatOps.maximumf (amaxUpTo x n) (FloatOps.absf (wide (x n)))

/-- The same, from `a`. -/
def amaxFrom (a : F .f32) (x : ℕ → F .bf16) : ℕ → F .f32
  | 0 => a
  | n + 1 => FloatOps.maximumf (amaxFrom a x n) (FloatOps.absf (wide (x n)))

theorem amaxFrom_amaxUpTo (x : ℕ → F .bf16) (N n : ℕ) : amaxFrom (amaxUpTo x N) (fun k => x (N + k)) n = amaxUpTo x (N + n) := by
  induction n with
  | zero => rfl
  | succ n ih => show FloatOps.maximumf _ _ = FloatOps.maximumf _ _; rw [ih]; rfl

theorem amaxFrom_zero (x : ℕ → F .bf16) (n : ℕ) : amaxFrom (Scalar.ofBits .f32 0x00000000#32) x n = amaxUpTo x n := by
  have := amaxFrom_amaxUpTo x 0 n
  simpa [amaxUpTo] using this

theorem amaxUpTo_congr {x y : ℕ → F .bf16} : ∀ n, (∀ k < n, x k = y k) → amaxUpTo x n = amaxUpTo y n
  | 0, _ => rfl
  | n + 1, h => by
    show FloatOps.maximumf _ _ = FloatOps.maximumf _ _
    rw [amaxUpTo_congr n fun k hk => h k (by omega), h n (by omega)]

theorem amaxFrom_congr (a : F .f32) {x y : ℕ → F .bf16} : ∀ n, (∀ k < n, x k = y k) → amaxFrom a x n = amaxFrom a y n
  | 0, _ => rfl
  | n + 1, h => by
    show FloatOps.maximumf _ _ = FloatOps.maximumf _ _
    rw [amaxFrom_congr a n fun k hk => h k (by omega), h n (by omega)]

/-- The anchors' scale. -/
def aScale (m : F .f32) : F .f32 := scaleOf 0x42FE0000#32 m

/-- The anchor's code, and what it decodes to. -/
def aCode (sc : F .f32) (x0 : F .bf16) : F .f32 := quant 0xC2FE0000#32 0x42FE0000#32 (wide x0) sc
def aByte (sc : F .f32) (x0 : F .bf16) : BitVec 8 := FloatOps.fptosi 8 (aCode sc x0)
def deq (sc : F .f32) (x0 : F .bf16) : F .f32 := FloatOps.mulf (aCode sc x0) sc

/-- The largest and the smallest of `x 0, …, x n`. -/
def hiTo (x : ℕ → F .bf16) : ℕ → F .bf16
  | 0 => x 0
  | n + 1 => FloatOps.maximumf (hiTo x n) (x (n + 1))
def loTo (x : ℕ → F .bf16) : ℕ → F .bf16
  | 0 => x 0
  | n + 1 => FloatOps.minimumf (loTo x n) (x (n + 1))

/-- The group's largest distance from the decoded anchor, and the deltas' scale. -/
def gmax (sc : F .f32) (x : ℕ → F .bf16) : F .f32 :=
  FloatOps.maximumf (FloatOps.subf (wide (hiTo x 9)) (deq sc (x 0))) (FloatOps.subf (deq sc (x 0)) (wide (loTo x 9)))
def dScale (sc : F .f32) (x : ℕ → F .bf16) : F .f32 := scaleOf 0x40E00000#32 (gmax sc x)

/-- Token `t`'s delta code, the decoded token, and the code as a word. -/
def dCode (sc : F .f32) (x : ℕ → F .bf16) (t : ℕ) : F .f32 :=
  quant 0xC0E00000#32 0x40E00000#32 (FloatOps.subf (wide (x t)) (deq sc (x 0))) (dScale sc x)
def hat (sc : F .f32) (x : ℕ → F .bf16) (t : ℕ) : F .bf16 :=
  FloatOps.truncf .bf16 (by decide) (FloatOps.addf (deq sc (x 0)) (FloatOps.mulf (dCode sc x t) (dScale sc x)))
def nib (sc : F .f32) (x : ℕ → F .bf16) (t : ℕ) : BitVec 32 := FloatOps.fptosi 32 (dCode sc x t)

/-- Two codes' low four bits in one byte. -/
def pack (lo hi : BitVec 32) : BitVec 8 :=
  (IntOp.ori (IntOp.andi lo 15#32) (IntOp.shli .vector (IntOp.andi hi 15#32) 4#32)).setWidth 8

/-! ## Indices -/

/-- Index `(b, r, h, d)` of a four-axis shape, each coordinate brought into range. -/
def at4 {b n h d : ℕ} [NeZero b] [NeZero n] [NeZero h] [NeZero d] (i0 i1 i2 i3 : ℕ) : (⟨4, ![b, n, h, d]⟩ : Shape).Idx :=
  fun a => match a with
    | ⟨0, _⟩ => (Fin.ofNat b i0 : Fin b)
    | ⟨1, _⟩ => (Fin.ofNat n i1 : Fin n)
    | ⟨2, _⟩ => (Fin.ofNat h i2 : Fin h)
    | ⟨3, _⟩ => (Fin.ofNat d i3 : Fin d)

/-- Index `(b, h, d)` of a three-axis shape. -/
def at3 {b h d : ℕ} [NeZero b] [NeZero h] [NeZero d] (i0 i1 i2 : ℕ) : (⟨3, ![b, h, d]⟩ : Shape).Idx :=
  fun a => match a with
    | ⟨0, _⟩ => (Fin.ofNat b i0 : Fin b)
    | ⟨1, _⟩ => (Fin.ofNat h i1 : Fin h)
    | ⟨2, _⟩ => (Fin.ofNat d i2 : Fin d)

/-- Index `(h, d)` of a two-axis shape. -/
def at2 {h d : ℕ} [NeZero h] [NeZero d] (i0 i1 : ℕ) : (⟨2, ![h, d]⟩ : Shape).Idx :=
  fun a => match a with
    | ⟨0, _⟩ => (Fin.ofNat h i0 : Fin h)
    | ⟨1, _⟩ => (Fin.ofNat d i1 : Fin d)

@[simp] theorem at4_val0 {b n h d : ℕ} [NeZero b] [NeZero n] [NeZero h] [NeZero d] (i0 i1 i2 i3 : ℕ) : ((at4 i0 i1 i2 i3 : (⟨4, ![b, n, h, d]⟩ : Shape).Idx) 0).val = i0 % b := rfl
@[simp] theorem at4_val1 {b n h d : ℕ} [NeZero b] [NeZero n] [NeZero h] [NeZero d] (i0 i1 i2 i3 : ℕ) : ((at4 i0 i1 i2 i3 : (⟨4, ![b, n, h, d]⟩ : Shape).Idx) 1).val = i1 % n := rfl
@[simp] theorem at4_val2 {b n h d : ℕ} [NeZero b] [NeZero n] [NeZero h] [NeZero d] (i0 i1 i2 i3 : ℕ) : ((at4 i0 i1 i2 i3 : (⟨4, ![b, n, h, d]⟩ : Shape).Idx) 2).val = i2 % h := rfl
@[simp] theorem at4_val3 {b n h d : ℕ} [NeZero b] [NeZero n] [NeZero h] [NeZero d] (i0 i1 i2 i3 : ℕ) : ((at4 i0 i1 i2 i3 : (⟨4, ![b, n, h, d]⟩ : Shape).Idx) 3).val = i3 % d := rfl
@[simp] theorem at3_val0 {b h d : ℕ} [NeZero b] [NeZero h] [NeZero d] (i0 i1 i2 : ℕ) : ((at3 i0 i1 i2 : (⟨3, ![b, h, d]⟩ : Shape).Idx) 0).val = i0 % b := rfl
@[simp] theorem at3_val1 {b h d : ℕ} [NeZero b] [NeZero h] [NeZero d] (i0 i1 i2 : ℕ) : ((at3 i0 i1 i2 : (⟨3, ![b, h, d]⟩ : Shape).Idx) 1).val = i1 % h := rfl
@[simp] theorem at3_val2 {b h d : ℕ} [NeZero b] [NeZero h] [NeZero d] (i0 i1 i2 : ℕ) : ((at3 i0 i1 i2 : (⟨3, ![b, h, d]⟩ : Shape).Idx) 2).val = i2 % d := rfl
@[simp] theorem at2_val0 {h d : ℕ} [NeZero h] [NeZero d] (i0 i1 : ℕ) : ((at2 i0 i1 : (⟨2, ![h, d]⟩ : Shape).Idx) 0).val = i0 % h := rfl
@[simp] theorem at2_val1 {h d : ℕ} [NeZero h] [NeZero d] (i0 i1 : ℕ) : ((at2 i0 i1 : (⟨2, ![h, d]⟩ : Shape).Idx) 1).val = i1 % d := rfl

theorem at4_eq {b n h d : ℕ} [NeZero b] [NeZero n] [NeZero h] [NeZero d] {i0 i1 i2 i3 : ℕ} (y : (⟨4, ![b, n, h, d]⟩ : Shape).Idx)
    (h0 : i0 = (y 0).val) (h1 : i1 = (y 1).val) (h2 : i2 = (y 2).val) (h3 : i3 = (y 3).val) : at4 i0 i1 i2 i3 = y := by
  subst h0 h1 h2 h3
  funext a
  apply Fin.ext
  match a with
  | ⟨0, _⟩ => exact Nat.mod_eq_of_lt (y 0).isLt
  | ⟨1, _⟩ => exact Nat.mod_eq_of_lt (y 1).isLt
  | ⟨2, _⟩ => exact Nat.mod_eq_of_lt (y 2).isLt
  | ⟨3, _⟩ => exact Nat.mod_eq_of_lt (y 3).isLt

theorem at3_eq {b h d : ℕ} [NeZero b] [NeZero h] [NeZero d] {i0 i1 i2 : ℕ} (y : (⟨3, ![b, h, d]⟩ : Shape).Idx)
    (h0 : i0 = (y 0).val) (h1 : i1 = (y 1).val) (h2 : i2 = (y 2).val) : at3 i0 i1 i2 = y := by
  subst h0 h1 h2
  funext a
  apply Fin.ext
  match a with
  | ⟨0, _⟩ => exact Nat.mod_eq_of_lt (y 0).isLt
  | ⟨1, _⟩ => exact Nat.mod_eq_of_lt (y 1).isLt
  | ⟨2, _⟩ => exact Nat.mod_eq_of_lt (y 2).isLt

theorem at2_eq {h d : ℕ} [NeZero h] [NeZero d] {i0 i1 : ℕ} (y : (⟨2, ![h, d]⟩ : Shape).Idx)
    (h0 : i0 = (y 0).val) (h1 : i1 = (y 1).val) : at2 i0 i1 = y := by
  subst h0 h1
  funext a
  apply Fin.ext
  match a with
  | ⟨0, _⟩ => exact Nat.mod_eq_of_lt (y 0).isLt
  | ⟨1, _⟩ => exact Nat.mod_eq_of_lt (y 1).isLt

/-- The tokens of group `g` of a block of `n` tokens, at head and channel `(h, d)`: past the last token, that token (places
counted round by tens). -/
def tok {b r : ℕ} [NeZero b] [NeZero r] (X : (⟨4, ![b, r, 16, 128]⟩ : Shape).Idx → F .bf16) (i n g h d : ℕ) (t : ℕ) : F .bf16 :=
  X (at4 i (min (10 * g + t % 10) (n - 1)) h d)

/-- The anchors: every tenth token. -/
def anch {b r : ℕ} [NeZero b] [NeZero r] (X : (⟨4, ![b, r, 16, 128]⟩ : Shape).Idx → F .bf16) (i h d : ℕ) (g : ℕ) : F .bf16 :=
  X (at4 i (10 * g) h d)

/-! ## What each result holds

At an index, from the tokens `X` (blocks of `n` tokens) and the anchors' largest absolute value `M`: the scale of head
and channel, the decoded token, the anchor's code, two packed delta codes, the delta scale. -/

section
variable {b r : ℕ} [NeZero b] [NeZero r] (n : ℕ) (X : (⟨4, ![b, r, 16, 128]⟩ : Shape).Idx → F .bf16)
  (M : (⟨3, ![b, 16, 128]⟩ : Shape).Idx → F .f32)

def scAt (i h d : ℕ) : F .f32 := aScale (M (at3 i h d))

def gAs : (⟨3, ![b, 16, 128]⟩ : Shape).Idx → F .f32 := fun y => aScale (M y)

def gHat {q : ℕ} : (⟨4, ![b, q, 16, 128]⟩ : Shape).Idx → F .bf16 := fun y =>
  hat (scAt M (y 0).val (y 2).val (y 3).val) (tok X (y 0).val n ((y 1).val / 10) (y 2).val (y 3).val) ((y 1).val % 10)

def gAc {q : ℕ} : (⟨4, ![b, q, 16, 128]⟩ : Shape).Idx → BitVec 8 := fun y =>
  aByte (scAt M (y 0).val (y 2).val (y 3).val) (tok X (y 0).val n (y 1).val (y 2).val (y 3).val 0)

def gDs {q : ℕ} : (⟨4, ![b, q, 16, 128]⟩ : Shape).Idx → F .f32 := fun y =>
  dScale (scAt M (y 0).val (y 2).val (y 3).val) (tok X (y 0).val n (y 1).val (y 2).val (y 3).val)

def gDc {q : ℕ} : (⟨4, ![b, q, 16, 128]⟩ : Shape).Idx → BitVec 8 := fun y =>
  pack (nib (scAt M (y 0).val (y 2).val (y 3).val) (tok X (y 0).val n ((y 1).val / 5) (y 2).val (y 3).val) (2 * ((y 1).val % 5)))
    (nib (scAt M (y 0).val (y 2).val (y 3).val) (tok X (y 0).val n ((y 1).val / 5) (y 2).val (y 3).val) (2 * ((y 1).val % 5) + 1))

end

/-! ## Shape casts between a row's block and its heads and channels -/

variable {α : Type}

theorem cast_down4 (v : (⟨4, ![1, 1, 16, 128]⟩ : Shape).Idx → α) (h) (j : (⟨2, ![16, 128]⟩ : Shape).Idx) :
    shapeCast (⟨2, ![16, 128]⟩ : Shape) v h j = v (at4 0 0 (j 0).val (j 1).val) := by
  refine shapeCast_apply _ _ _ _ ?_
  rw [Shape.rowMajor_val_four, Shape.rowMajor_val_two]
  have h0 := (j 0).isLt; have h1 := (j 1).isLt
  simp only [Matrix.cons_val_zero, Matrix.cons_val_one] at h0 h1
  simp [at4, Nat.mod_eq_of_lt h0, Nat.mod_eq_of_lt h1]

theorem cast_up4 (v : (⟨2, ![16, 128]⟩ : Shape).Idx → α) (h) (x : (⟨4, ![1, 1, 16, 128]⟩ : Shape).Idx) :
    shapeCast (⟨4, ![1, 1, 16, 128]⟩ : Shape) v h x = v (at2 (x 2).val (x 3).val) := by
  refine shapeCast_apply _ _ _ _ ?_
  rw [Shape.rowMajor_val_four, Shape.rowMajor_val_two]
  have h0 := (x 0).isLt; have h1 := (x 1).isLt; have h2 := (x 2).isLt; have h3 := (x 3).isLt
  simp at h0 h1 h2 h3
  simp [at2, Nat.mod_eq_of_lt h2, Nat.mod_eq_of_lt h3, h0, h1]

theorem cast_down3 (v : (⟨3, ![1, 16, 128]⟩ : Shape).Idx → α) (h) (j : (⟨2, ![16, 128]⟩ : Shape).Idx) :
    shapeCast (⟨2, ![16, 128]⟩ : Shape) v h j = v (at3 0 (j 0).val (j 1).val) := by
  refine shapeCast_apply _ _ _ _ ?_
  rw [Shape.rowMajor_val_three, Shape.rowMajor_val_two]
  have h0 := (j 0).isLt; have h1 := (j 1).isLt
  simp only [Matrix.cons_val_zero, Matrix.cons_val_one] at h0 h1
  simp [at3, Nat.mod_eq_of_lt h0, Nat.mod_eq_of_lt h1]

theorem cast_up3 (v : (⟨2, ![16, 128]⟩ : Shape).Idx → α) (h) (x : (⟨3, ![1, 16, 128]⟩ : Shape).Idx) :
    shapeCast (⟨3, ![1, 16, 128]⟩ : Shape) v h x = v (at2 (x 1).val (x 2).val) := by
  refine shapeCast_apply _ _ _ _ ?_
  rw [Shape.rowMajor_val_three, Shape.rowMajor_val_two]
  have h0 := (x 0).isLt; have h2 := (x 1).isLt; have h3 := (x 2).isLt
  simp at h0 h2 h3
  simp [at2, Nat.mod_eq_of_lt h2, Nat.mod_eq_of_lt h3, h0]

end Cert.Codec
-- ==== Proof.Body0.lean ====
/-
  THE FIRST PASS'S BODY, run once at a symbolic grid point: it folds the block's anchors into the running maximum of
  absolute values held in the result's buffer, starting from 0 at a head's first block.
-/
module

public import proofs.«01_k».proof.Proof.Gen.KernelIdeal.Loops
public import proofs.«01_k».proof.Proof.Vals
public import Idealize.ShloMosaic.Lib.LoopRemainder

@[expose] public section

set_option maxRecDepth 8192

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The body's condition: the grid point is its head's first block. -/
abbrev first0 (i : grid0.Coords) : BitVec 1 :=
  Scalar.cmpi .ne (Scalar.extui (Scalar.cmpi .eq (BitVec.ofNat 32 (i 1).val) 0#32)) 0#32

theorem first0_iff : ∀ i : grid0.Coords, first0 i = 1#1 ↔ (i 1).val = 0 := by decide +kernel

/-- At a head's first block. -/
def run0A (c : Dev nD) (i : grid0.Coords) (M0 : Memref sig .tc .vmem S1x400x16x128 .bf16) (h0 : M0.IsWhole)
    (M1 : Memref sig .tc .vmem S1x16x128 .f32) (h1 : M1.IsWhole) (hi : first0 i = 1#1) (f0 : Bf (F := F) c M0) (f1 : Bf (F := F) c M1) :
    { W : Bf (F := F) c M1 // ∀ (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc0_anchor_amax i M0 h0 M1 h1) Q } := by
  refine ⟨?_, fun E Q => ?run⟩
  case run =>
    rw [cc0_anchor_amax_eq_skeleton]; unfold cc0_anchor_amax_skel
    simp only [dif_pos hi]
    iintro ⟨H0, H1, Hk⟩
    sl_exec
    sl_step
    iapply Hk
    isplitl [H0]; · iexact H0
    iexact H1

/-- At a later block. -/
def run0B (c : Dev nD) (i : grid0.Coords) (M0 : Memref sig .tc .vmem S1x400x16x128 .bf16) (h0 : M0.IsWhole)
    (M1 : Memref sig .tc .vmem S1x16x128 .f32) (h1 : M1.IsWhole) (hi : ¬ first0 i = 1#1) (f0 : Bf (F := F) c M0) (f1 : Bf (F := F) c M1) :
    { W : Bf (F := F) c M1 // ∀ (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc0_anchor_amax i M0 h0 M1 h1) Q } := by
  refine ⟨?_, fun E Q => ?run⟩
  case run =>
    rw [cc0_anchor_amax_eq_skeleton]; unfold cc0_anchor_amax_skel
    simp only [dif_neg hi]
    iintro ⟨H0, H1, Hk⟩
    sl_exec
    sl_step
    iapply Hk
    isplitl [H0]; · iexact H0
    iexact H1

end Cert.Codec
-- ==== Proof.Body1.lean ====
/-
  THE SECOND PASS'S BODY, run once at a symbolic grid point: the scale written whole, then the groups of the block, two a
  trip, each group's decoded tokens, anchor codes, packed delta codes and delta scale stored a row at a time.
-/
module

public import proofs.«01_k».proof.Proof.Body0

@[expose] public section

set_option maxRecDepth 8192

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in its five result buffers, with the run. -/
def run1 (c : Dev nD) (i : grid1.Coords) (M0 : Memref sig .tc .vmem S1x400x16x128 .bf16) (h0 : M0.IsWhole)
    (M1 : Memref sig .tc .vmem S1x16x128 .f32) (h1 : M1.IsWhole) (M2 : Memref sig .tc .vmem S1x400x16x128 .bf16) (h2 : M2.IsWhole)
    (M3 : Memref sig .tc .vmem S1x40x16x128 .i8) (h3 : M3.IsWhole) (M4 : Memref sig .tc .vmem S1x16x128 .f32) (h4 : M4.IsWhole)
    (M5 : Memref sig .tc .vmem S1x200x16x128 .i8) (h5 : M5.IsWhole) (M6 : Memref sig .tc .vmem S1x40x16x128 .f32) (h6 : M6.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) :
    Σ' (W2 : Bf (F := F) c M2) (W3 : Bf (F := F) c M3) (W4 : Bf (F := F) c M4) (W5 : Bf (F := F) c M5),
    { W6 : Bf (F := F) c M6 // ∀ (E : Set ℕ) (Q : PUnit → sProp 𝕄),
        iprop(pt c M0 f0 ∗ pt c M1 f1 ∗ pt c M2 f2 ∗ pt c M3 f3 ∗ pt c M4 f4 ∗ pt c M5 f5 ∗ pt c M6 f6
          ∗ (iprop(pt c M0 f0 ∗ pt c M1 f1 ∗ pt c M2 W2 ∗ pt c M3 W3 ∗ pt c M4 W4 ∗ pt c M5 W5 ∗ pt c M6 W6) -∗ Q ⟨⟩))
          ⊢ wp frame (wpE (defs₀ (F := F)) Variants.none c none) E
              (cc1_codec i M0 h0 M1 h1 M2 h2 M3 h3 M4 h4 M5 h5 M6 h6) Q } := by
  refine ⟨?_, ?_, ?_, ?_, ?_, fun E Q => ?run⟩
  case run =>
    rw [cc1_codec_eq_skeleton]; unfold cc1_codec_skel
    iintro ⟨H0, H1, H2, H3, H4, H5, H6, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    iexact H6

end Cert.Codec
-- ==== Proof.Rows.lean ====
/-
  ONE TRIP OF THE SECOND PASS, as rows: the lists of stores a trip makes, each the same function of its row over the
  group's tokens, and what a store of each kind holds.
-/
module

public import proofs.«01_k».proof.Proof.Gen.KernelIdeal.Loops
public import proofs.«01_k».proof.Proof.Vals

@[expose] public section

set_option maxRecDepth 8192

noncomputable section

namespace Cert.Codec

open Cert.KernelIdeal Cert.KernelIdeal.Gen
open Idealize.ShloMosaic
open Idealize.ShloMosaic.TcCoe

variable {F : FTy → Type} [FloatOps F]

/-- A row of a block, cast to its heads and channels, read at one of them. -/
theorem row_read {q : ℕ} [NeZero q] {e : EltTy} {sp : Space} (M : Memref sig .tc sp (⟨4, ![1, q, 16, 128]⟩ : Shape) e)
    (f : BufTy.Contents (Elt F) M.view.ty) (off : Fin 4 → ℕ) (inb : ∀ a, off a + S1x1x16x128.size a ≤ (⟨4, ![1, q, 16, 128]⟩ : Shape).size a) (ρ : ℕ)
    (hoff : off = ![0, ρ, 0, 0]) (h) (j : S16x128.Idx) :
    shapeCast S16x128 (M.view.readAt (Elt F) (Rect.unit (s := (⟨4, ![1, q, 16, 128]⟩ : Shape)) off S1x1x16x128.size inb).toLoadRect f) h j
      = M.view.read (Elt F) f (at4 0 ρ (j 0).val (j 1).val) := by
  subst hoff
  rw [cast_down4, View.readAt_eq_ld]
  show M.view.read (Elt F) f ((Rect.unit (s := (⟨4, ![1, q, 16, 128]⟩ : Shape)) ![0, ρ, 0, 0] S1x1x16x128.size inb).emb (at4 0 0 (j 0).val (j 1).val)) = _
  congr 1
  symm
  have h0 := (j 0).isLt; have h1 := (j 1).isLt
  simp only [Matrix.cons_val_zero, Matrix.cons_val_one] at h0 h1
  refine at4_eq _ ?_ ?_ ?_ ?_ <;> simp only [ValueKit.rect_emb_unit_val] <;> simp [Nat.mod_eq_of_lt h0, Nat.mod_eq_of_lt h1]

/-- The places of a trip's stores: which of its two groups and which token, the last store first. -/
abbrev places20 : List (Fin 2 × Fin 10) :=
  [(1, 9), (1, 8), (1, 7), (1, 6), (1, 5), (1, 4), (1, 3), (1, 2), (1, 1), (1, 0),
   (0, 9), (0, 8), (0, 7), (0, 6), (0, 5), (0, 4), (0, 3), (0, 2), (0, 1), (0, 0)]
abbrev places2 : List (Fin 2) := [1, 0]
abbrev places10 : List (Fin 10) := [9, 8, 7, 6, 5, 4, 3, 2, 1, 0]

section
variable (i : grid1.Coords) (M0 : Memref sig .tc .vmem S1x400x16x128 .bf16) (v3 : Vec F S1x16x128 .f32)
  (X : BufTy.Contents (Elt F) M0.view.ty) (k : Fin (k1_t1_loop i).trips)

/-- Token `s` of a trip's group `a`. -/
def tokV (a : Fin 2) (s : Fin 10) : FVec F S16x128 .bf16 :=
  shapeCast S16x128 (M0.view.readAt (Elt F) (Rect.unit (s := S1x400x16x128)
    (k1_off1 i k (BitVec.ofNat 32 (10 * a.val)) (BitVec.ofNat 32 s.val)) S1x1x16x128.size (k1_off1_inb i k a s)).toLoadRect X)
    shapeCasts_S1x1x16x128_S16x128

def scV : FVec F S16x128 .f32 := fun j => aScale (shapeCast S16x128 v3 shapeCasts_S1x16x128_S16x128 j)

def grp (a : Fin 2) (j : S16x128.Idx) : ℕ → F .bf16 := fun s => tokV i M0 X k a (Fin.ofNat 10 s) j

def pHat (p : Fin 2 × Fin 10) : View.Piece (Elt F) S1x400x16x128 .bf16 :=
  ⟨Rect.unit (s := S1x400x16x128) (k1_off3 i k (BitVec.ofNat 32 (10 * p.1.val)) (BitVec.ofNat 32 p.2.val)) S1x1x16x128.size (k1_off3_inb i k p.1 p.2),
    shapeCast S1x1x16x128 (fun j => hat (scV v3 j) (grp i M0 X k p.1 j) p.2.val) shapeCasts_S16x128_S1x1x16x128⟩

def pAc (a : Fin 2) : View.Piece (Elt F) S1x40x16x128 .i8 :=
  ⟨Rect.unit (s := S1x40x16x128) (k1_off2 i k (BitVec.ofNat 32 a.val)) S1x1x16x128.size (k1_off2_inb i k a),
    shapeCast S1x1x16x128 (fun j => aByte (scV v3 j) (grp i M0 X k a j 0)) shapeCasts_S16x128_S1x1x16x128⟩

def pDs (a : Fin 2) : View.Piece (Elt F) S1x40x16x128 .f32 :=
  ⟨Rect.unit (s := S1x40x16x128) (k1_off2 i k (BitVec.ofNat 32 a.val)) S1x1x16x128.size (k1_off2_inb i k a),
    shapeCast S1x1x16x128 (fun j => dScale (scV v3 j) (grp i M0 X k a j)) shapeCasts_S16x128_S1x1x16x128⟩

def pDc (p : Fin 10) : View.Piece (Elt F) S1x200x16x128 .i8 :=
  ⟨Rect.unit (s := S1x200x16x128) (k1_off4 i k (BitVec.ofNat 32 p.val)) S1x1x16x128.size (k1_off4_inb i k p),
    shapeCast S1x1x16x128 (fun j => pack (nib (scV v3 j) (grp i M0 X k (Fin.ofNat 2 (p.val / 5)) j) (2 * (p.val % 5)))
      (nib (scV v3 j) (grp i M0 X k (Fin.ofNat 2 (p.val / 5)) j) (2 * (p.val % 5) + 1))) shapeCasts_S16x128_S1x1x16x128⟩

variable (c : Dev nD) (h0 : M0.IsWhole)
  (M1 : Memref sig .tc .vmem S1x16x128 .f32) (h1 : M1.IsWhole) (M2 : Memref sig .tc .vmem S1x400x16x128 .bf16) (h2 : M2.IsWhole)
  (M3 : Memref sig .tc .vmem S1x40x16x128 .i8) (h3 : M3.IsWhole) (M4 : Memref sig .tc .vmem S1x16x128 .f32) (h4 : M4.IsWhole)
  (M5 : Memref sig .tc .vmem S1x200x16x128 .i8) (h5 : M5.IsWhole) (M6 : Memref sig .tc .vmem S1x40x16x128 .f32) (h6 : M6.IsWhole)
  (v2 acc : BitVec 32)

set_option maxHeartbeats 4000000 in
theorem trip_ac : (trip_k1_t1 Variants.none c none i M0 h0 M1 h1 M2 h2 M3 h3 M4 h4 M5 h5 M6 h6 v2 v3 X k).2.2.1 acc
    = places2.map (pAc i M0 v3 X k) := by
  unfold trip_k1_t1
  refine congrArg₂ List.cons ?_ (congrArg₂ List.cons ?_ ?_) <;> rfl

set_option maxHeartbeats 4000000 in
theorem trip_ds : (trip_k1_t1 Variants.none c none i M0 h0 M1 h1 M2 h2 M3 h3 M4 h4 M5 h5 M6 h6 v2 v3 X k).2.2.2.2.1 acc
    = places2.map (pDs i M0 v3 X k) := by
  unfold trip_k1_t1
  refine congrArg₂ List.cons ?_ (congrArg₂ List.cons ?_ ?_) <;> rfl

set_option maxHeartbeats 4000000 in
theorem trip_hat : (trip_k1_t1 Variants.none c none i M0 h0 M1 h1 M2 h2 M3 h3 M4 h4 M5 h5 M6 h6 v2 v3 X k).2.1 acc
    = places20.map (pHat i M0 v3 X k) := by
  unfold trip_k1_t1
  dsimp only
  iterate 20 refine congrArg₂ List.cons ?_ ?_; rfl
  rfl

set_option maxHeartbeats 4000000 in
theorem trip_dc : (trip_k1_t1 Variants.none c none i M0 h0 M1 h1 M2 h2 M3 h3 M4 h4 M5 h5 M6 h6 v2 v3 X k).2.2.2.1 acc
    = places10.map (pDc i M0 v3 X k) := by
  unfold trip_k1_t1
  dsimp only
  iterate 10 refine congrArg₂ List.cons ?_ ?_; rfl
  rfl

end

end Cert.Codec
-- ==== Proof.Body1Val.lean ====
/-
  WHAT THE SECOND PASS'S BODY LEAVES, read at an index: each result's closed form over the block's tokens, at every row a
  trip stores.
-/
module

public import proofs.«01_k».proof.Proof.Body1
public import proofs.«01_k».proof.Proof.Rows

@[expose] public section

set_option maxRecDepth 8192

noncomputable section

namespace Cert.Codec

open Cert.KernelIdeal Cert.KernelIdeal.Gen
open Idealize.ShloMosaic
open Idealize.ShloMosaic.TcCoe

variable {F : FTy → Type} [FloatOps F]

/-- The tokens of block `i`. -/
abbrev nTok (i : grid1.Coords) : ℕ := min 400 (8192 - 400 * (i 1).val)

theorem trips1 : ∀ i : grid1.Coords, (k1_t1_loop i).trips = (nTok i + 19) / 20 := by decide +kernel

/-- Lists grown from nothing, trip by trip: what holds of every trip's members holds of all. -/
theorem all_of_grow {α : Type*} {N : ℕ} {Ls : ℕ → List α} {T : Fin N → List α} (P : α → Prop)
    (h0 : Ls 0 = []) (hs : ∀ k : Fin N, Ls (k.val + 1) = T k ++ Ls k.val) (hT : ∀ k, ∀ p ∈ T k, P p) :
    ∀ k ≤ N, ∀ p ∈ Ls k, P p
  | 0, _ => by rw [h0]; exact fun _ h => absurd h List.not_mem_nil
  | k + 1, hk => by
    rw [hs ⟨k, hk⟩]
    intro p hp
    rcases List.mem_append.mp hp with hp | hp
    · exact hT _ p hp
    · exact all_of_grow P h0 hs hT k (by omega) p hp

/-- And a trip's members are members at the end. -/
theorem mem_of_grow {α : Type*} {N : ℕ} {Ls : ℕ → List α} {T : Fin N → List α}
    (hs : ∀ k : Fin N, Ls (k.val + 1) = T k ++ Ls k.val) (k : Fin N) {p : α} (hp : p ∈ T k) :
    ∀ m, k.val < m → m ≤ N → p ∈ Ls m
  | 0, h, _ => absurd h (by omega)
  | m + 1, h, hm => by
    rw [hs ⟨m, hm⟩]
    by_cases he : k.val = m
    · obtain rfl : k = ⟨m, hm⟩ := Fin.ext he
      exact List.mem_append_left _ hp
    · exact List.mem_append_right _ (mem_of_grow hs k hp m (by omega) (by omega))

section
variable (c : Dev nD) (i : grid1.Coords) (M0 : Memref sig .tc .vmem S1x400x16x128 .bf16) (h0 : M0.IsWhole)
  (M1 : Memref sig .tc .vmem S1x16x128 .f32) (h1 : M1.IsWhole) (M2 : Memref sig .tc .vmem S1x400x16x128 .bf16) (h2 : M2.IsWhole)
  (M3 : Memref sig .tc .vmem S1x40x16x128 .i8) (h3 : M3.IsWhole) (M4 : Memref sig .tc .vmem S1x16x128 .f32) (h4 : M4.IsWhole)
  (M5 : Memref sig .tc .vmem S1x200x16x128 .i8) (h5 : M5.IsWhole) (M6 : Memref sig .tc .vmem S1x40x16x128 .f32) (h6 : M6.IsWhole)
  (f0 : Bf (F := F) c M0) (f1 : Bf (F := F) c M1) (f2 : Bf (F := F) c M2) (f3 : Bf (F := F) c M3) (f4 : Bf (F := F) c M4)
  (f5 : Bf (F := F) c M5) (f6 : Bf (F := F) c M6)

/-- The largest absolute values as the body reads them. -/
abbrev mRead : Vec F S1x16x128 .f32 :=
  View.readAt (Elt F) M1.view (Rect.unit (s := S1x16x128) ![0, 0, 0] ![1, 16, 128] inb_S1x16x128_S1x16x128_0_0_0).toLoadRect f1

theorem mRead_eq : mRead c M1 f1 = M1.view.read (Elt F) f1 := by
  unfold mRead
  rw [View.readAt_eq_ld]
  exact View.ld_unit_lit _ _ (by decide)

theorem scV_eq (x : S1x1x16x128.Idx) :
    scV (mRead c M1 f1) (at2 (x 2).val (x 3).val) = scAt (M1.view.read (Elt F) f1) 0 (x 2).val (x 3).val := by
  have h2 : (x 2).val < 16 := (x 2).isLt
  have h3 : (x 3).val < 128 := (x 3).isLt
  unfold scV scAt
  rw [mRead_eq, cast_down3]
  simp only [at2_val0, at2_val1, Nat.mod_eq_of_lt h2, Nat.mod_eq_of_lt h3]

theorem grp_eq (k : Fin (k1_t1_loop i).trips) (a : Fin 2) (x : S1x1x16x128.Idx) :
    grp i M0 f0 k a (at2 (x 2).val (x 3).val) = tok (M0.view.read (Elt F) f0) 0 (nTok i) (2 * k.val + a.val) (x 2).val (x 3).val := by
  have h2 : (x 2).val < 16 := (x 2).isLt
  have h3 : (x 3).val < 128 := (x 3).isLt
  funext s
  unfold grp tokV tok
  rw [row_read (q := 400) M0 f0 _ _ _ (k1_off1_eq i k a (Fin.ofNat 10 s))]
  simp only [at2_val0, at2_val1, Nat.mod_eq_of_lt h2, Nat.mod_eq_of_lt h3]
  congr 2
  simp only [Fin.val_ofNat, nTok]
  omega

/-- Where a stored row's index lies. -/
theorem emb_row {q : ℕ} (off : Fin 4 → ℕ) (inb) (ρ : ℕ) (hoff : off = ![0, ρ, 0, 0])
    (x : (Rect.unit (s := (⟨4, ![1, q, 16, 128]⟩ : Shape)) off S1x1x16x128.size inb).shape.Idx) :
    (((Rect.unit (s := (⟨4, ![1, q, 16, 128]⟩ : Shape)) off S1x1x16x128.size inb).emb x 0).val = 0)
      ∧ (((Rect.unit (s := (⟨4, ![1, q, 16, 128]⟩ : Shape)) off S1x1x16x128.size inb).emb x 1).val = ρ)
      ∧ (((Rect.unit (s := (⟨4, ![1, q, 16, 128]⟩ : Shape)) off S1x1x16x128.size inb).emb x 2).val = (x 2).val)
      ∧ (((Rect.unit (s := (⟨4, ![1, q, 16, 128]⟩ : Shape)) off S1x1x16x128.size inb).emb x 3).val = (x 3).val) := by
  subst hoff
  have h0 : (x 0).val < 1 := (x 0).isLt
  have h1 : (x 1).val < 1 := (x 1).isLt
  refine ⟨?_, ?_, ?_, ?_⟩ <;> rw [ValueKit.rect_emb_unit_val] <;> simp <;> omega

theorem gHat_at {q : ℕ} (n : ℕ) (X : S1x400x16x128.Idx → F .bf16) (M : S1x16x128.Idx → F .f32) (y : (⟨4, ![1, q, 16, 128]⟩ : Shape).Idx) {ρ h d : ℕ}
    (e : (y 0).val = 0 ∧ (y 1).val = ρ ∧ (y 2).val = h ∧ (y 3).val = d) :
    gHat n X M y = hat (scAt M 0 h d) (tok X 0 n (ρ / 10) h d) (ρ % 10) := by
  obtain ⟨e0, e1, e2, e3⟩ := e; unfold gHat; rw [e0, e1, e2, e3]

theorem gAc_at {q : ℕ} (n : ℕ) (X : S1x400x16x128.Idx → F .bf16) (M : S1x16x128.Idx → F .f32) (y : (⟨4, ![1, q, 16, 128]⟩ : Shape).Idx) {ρ h d : ℕ}
    (e : (y 0).val = 0 ∧ (y 1).val = ρ ∧ (y 2).val = h ∧ (y 3).val = d) :
    gAc n X M y = aByte (scAt M 0 h d) (tok X 0 n ρ h d 0) := by
  obtain ⟨e0, e1, e2, e3⟩ := e; unfold gAc; rw [e0, e1, e2, e3]

theorem gDs_at {q : ℕ} (n : ℕ) (X : S1x400x16x128.Idx → F .bf16) (M : S1x16x128.Idx → F .f32) (y : (⟨4, ![1, q, 16, 128]⟩ : Shape).Idx) {ρ h d : ℕ}
    (e : (y 0).val = 0 ∧ (y 1).val = ρ ∧ (y 2).val = h ∧ (y 3).val = d) :
    gDs n X M y = dScale (scAt M 0 h d) (tok X 0 n ρ h d) := by
  obtain ⟨e0, e1, e2, e3⟩ := e; unfold gDs; rw [e0, e1, e2, e3]

theorem gDc_at {q : ℕ} (n : ℕ) (X : S1x400x16x128.Idx → F .bf16) (M : S1x16x128.Idx → F .f32) (y : (⟨4, ![1, q, 16, 128]⟩ : Shape).Idx) {ρ h d : ℕ}
    (e : (y 0).val = 0 ∧ (y 1).val = ρ ∧ (y 2).val = h ∧ (y 3).val = d) :
    gDc n X M y = pack (nib (scAt M 0 h d) (tok X 0 n (ρ / 5) h d) (2 * (ρ % 5))) (nib (scAt M 0 h d) (tok X 0 n (ρ / 5) h d) (2 * (ρ % 5) + 1)) := by
  obtain ⟨e0, e1, e2, e3⟩ := e; unfold gDc; rw [e0, e1, e2, e3]

theorem pHat_val (k : Fin (k1_t1_loop i).trips) (p : Fin 2 × Fin 10) (x : S1x1x16x128.Idx) :
    (pHat i M0 (mRead c M1 f1) f0 k p).2 x
      = gHat (nTok i) (M0.view.read (Elt F) f0) (M1.view.read (Elt F) f1) ((pHat i M0 (mRead c M1 f1) f0 k p).1.emb x) := by
  refine Eq.trans ?_ (gHat_at _ _ _ _ (emb_row (q := 400) _ (k1_off3_inb i k p.1 p.2) _ (k1_off3_eq i k p.1 p.2) x)).symm
  show shapeCast S1x1x16x128 (fun j => hat (scV (mRead c M1 f1) j) (grp i M0 f0 k p.1 j) p.2.val) shapeCasts_S16x128_S1x1x16x128 x = _
  refine (cast_up4 _ _ x).trans ?_
  rw [scV_eq, grp_eq]
  have hp := p.2.isLt
  rw [show (20 * k.val + 10 * p.1.val + p.2.val) / 10 = 2 * k.val + p.1.val by omega,
    show (20 * k.val + 10 * p.1.val + p.2.val) % 10 = p.2.val by omega]

theorem pAc_val (k : Fin (k1_t1_loop i).trips) (a : Fin 2) (x : S1x1x16x128.Idx) :
    (pAc i M0 (mRead c M1 f1) f0 k a).2 x
      = gAc (nTok i) (M0.view.read (Elt F) f0) (M1.view.read (Elt F) f1) ((pAc i M0 (mRead c M1 f1) f0 k a).1.emb x) := by
  refine Eq.trans ?_ (gAc_at _ _ _ _ (emb_row (q := 40) _ (k1_off2_inb i k a) _ (k1_off2_eq i k a) x)).symm
  show shapeCast S1x1x16x128 (fun j => aByte (scV (mRead c M1 f1) j) (grp i M0 f0 k a j 0)) shapeCasts_S16x128_S1x1x16x128 x = _
  refine (cast_up4 _ _ x).trans ?_
  rw [scV_eq, grp_eq]

theorem pDs_val (k : Fin (k1_t1_loop i).trips) (a : Fin 2) (x : S1x1x16x128.Idx) :
    (pDs i M0 (mRead c M1 f1) f0 k a).2 x
      = gDs (nTok i) (M0.view.read (Elt F) f0) (M1.view.read (Elt F) f1) ((pDs i M0 (mRead c M1 f1) f0 k a).1.emb x) := by
  refine Eq.trans ?_ (gDs_at _ _ _ _ (emb_row (q := 40) _ (k1_off2_inb i k a) _ (k1_off2_eq i k a) x)).symm
  show shapeCast S1x1x16x128 (fun j => dScale (scV (mRead c M1 f1) j) (grp i M0 f0 k a j)) shapeCasts_S16x128_S1x1x16x128 x = _
  refine (cast_up4 _ _ x).trans ?_
  rw [scV_eq, grp_eq]

theorem pDc_val (k : Fin (k1_t1_loop i).trips) (a : Fin 10) (x : S1x1x16x128.Idx) :
    (pDc i M0 (mRead c M1 f1) f0 k a).2 x
      = gDc (nTok i) (M0.view.read (Elt F) f0) (M1.view.read (Elt F) f1) ((pDc i M0 (mRead c M1 f1) f0 k a).1.emb x) := by
  refine Eq.trans ?_ (gDc_at _ _ _ _ (emb_row (q := 200) _ (k1_off4_inb i k a) _ (k1_off4_eq i k a) x)).symm
  show shapeCast S1x1x16x128 (fun j => pack (nib (scV (mRead c M1 f1) j) (grp i M0 f0 k (Fin.ofNat 2 (a.val / 5)) j) (2 * (a.val % 5)))
      (nib (scV (mRead c M1 f1) j) (grp i M0 f0 k (Fin.ofNat 2 (a.val / 5)) j) (2 * (a.val % 5) + 1))) shapeCasts_S16x128_S1x1x16x128 x = _
  refine (cast_up4 _ _ x).trans ?_
  rw [scV_eq, grp_eq]
  have ha := a.isLt
  have h5 : (10 * k.val + a.val) / 5 = 2 * k.val + (Fin.ofNat 2 (a.val / 5)).val := by simp only [Fin.val_ofNat]; omega
  have h6 : (10 * k.val + a.val) % 5 = a.val % 5 := by omega
  rw [h5, h6]

/-- A row of a four-axis block lies in the store of that row. -/
theorem mem_row {q : ℕ} (off : Fin 4 → ℕ) (inb) (ρ : ℕ) (hoff : off = ![0, ρ, 0, 0]) (y : (⟨4, ![1, q, 16, 128]⟩ : Shape).Idx) (hy : (y 1).val = ρ) :
    y ∈ (Rect.unit (s := (⟨4, ![1, q, 16, 128]⟩ : Shape)) off S1x1x16x128.size inb).set := by
  subst hoff
  rw [Rect.mem_set_unit]
  have h0 : (y 0).val < 1 := (y 0).isLt
  have h2 : (y 2).val < 16 := (y 2).isLt
  have h3 : (y 3).val < 128 := (y 3).isLt
  intro a
  match a with
  | ⟨0, _⟩ => exact ⟨Nat.zero_le _, h0⟩
  | ⟨1, _⟩ => exact ⟨hy.ge, by show (y 1).val < ρ + 1; omega⟩
  | ⟨2, _⟩ => exact ⟨Nat.zero_le _, by show (y 2).val < 0 + 16; omega⟩
  | ⟨3, _⟩ => exact ⟨Nat.zero_le _, by show (y 3).val < 0 + 128; omega⟩

/-- The state after `k` trips. -/
abbrev st1 (k : ℕ) := st_k1_t1 (F := F) Variants.none c none i M0 h0 M1 h1 M2 h2 M3 h3 M4 h4 M5 h5 M6 h6 (run1.sl.v2 i) (mRead c M1 f1) f0 (0#32) k

theorem grow_hat (k : Fin (k1_t1_loop i).trips) :
    (st1 c i M0 h0 M1 h1 M2 h2 M3 h3 M4 h4 M5 h5 M6 h6 f0 f1 (k.val + 1)).2.1
      = places20.map (pHat i M0 (mRead c M1 f1) f0 k) ++ (st1 c i M0 h0 M1 h1 M2 h2 M3 h3 M4 h4 M5 h5 M6 h6 f0 f1 k.val).2.1 := by
  unfold st1
  rw [st_k1_t1_succ]
  exact congrArg (· ++ _) (trip_hat i M0 (mRead c M1 f1) f0 k c h0 M1 h1 M2 h2 M3 h3 M4 h4 M5 h5 M6 h6 _ _)

theorem grow_ac (k : Fin (k1_t1_loop i).trips) :
    (st1 c i M0 h0 M1 h1 M2 h2 M3 h3 M4 h4 M5 h5 M6 h6 f0 f1 (k.val + 1)).2.2.1
      = places2.map (pAc i M0 (mRead c M1 f1) f0 k) ++ (st1 c i M0 h0 M1 h1 M2 h2 M3 h3 M4 h4 M5 h5 M6 h6 f0 f1 k.val).2.2.1 := by
  unfold st1
  rw [st_k1_t1_succ]
  exact congrArg (· ++ _) (trip_ac i M0 (mRead c M1 f1) f0 k c h0 M1 h1 M2 h2 M3 h3 M4 h4 M5 h5 M6 h6 _ _)

theorem grow_dc (k : Fin (k1_t1_loop i).trips) :
    (st1 c i M0 h0 M1 h1 M2 h2 M3 h3 M4 h4 M5 h5 M6 h6 f0 f1 (k.val + 1)).2.2.2.1
      = places10.map (pDc i M0 (mRead c M1 f1) f0 k) ++ (st1 c i M0 h0 M1 h1 M2 h2 M3 h3 M4 h4 M5 h5 M6 h6 f0 f1 k.val).2.2.2.1 := by
  unfold st1
  rw [st_k1_t1_succ]
  exact congrArg (· ++ _) (trip_dc i M0 (mRead c M1 f1) f0 k c h0 M1 h1 M2 h2 M3 h3 M4 h4 M5 h5 M6 h6 _ _)

theorem grow_ds (k : Fin (k1_t1_loop i).trips) :
    (st1 c i M0 h0 M1 h1 M2 h2 M3 h3 M4 h4 M5 h5 M6 h6 f0 f1 (k.val + 1)).2.2.2.2
      = places2.map (pDs i M0 (mRead c M1 f1) f0 k) ++ (st1 c i M0 h0 M1 h1 M2 h2 M3 h3 M4 h4 M5 h5 M6 h6 f0 f1 k.val).2.2.2.2 := by
  unfold st1
  rw [st_k1_t1_succ]
  exact congrArg (· ++ _) (trip_ds i M0 (mRead c M1 f1) f0 k c h0 M1 h1 M2 h2 M3 h3 M4 h4 M5 h5 M6 h6 _ _)

abbrev run1' := run1 c i M0 h0 M1 h1 M2 h2 M3 h3 M4 h4 M5 h5 M6 h6 f0 f1 f2 f3 f4 f5 f6

theorem run1_W2 : (run1' c i M0 h0 M1 h1 M2 h2 M3 h3 M4 h4 M5 h5 M6 h6 f0 f1 f2 f3 f4 f5 f6).1
    = M2.view.writes (Elt F) f2 (st1 c i M0 h0 M1 h1 M2 h2 M3 h3 M4 h4 M5 h5 M6 h6 f0 f1 (k1_t1_loop i).trips).2.1 := by
  unfold run1' run1
  simp only [st1, Scf.Loop.trips, k1_t1_loop, mRead]

theorem run1_W3 : (run1' c i M0 h0 M1 h1 M2 h2 M3 h3 M4 h4 M5 h5 M6 h6 f0 f1 f2 f3 f4 f5 f6).2.1
    = M3.view.writes (Elt F) f3 (st1 c i M0 h0 M1 h1 M2 h2 M3 h3 M4 h4 M5 h5 M6 h6 f0 f1 (k1_t1_loop i).trips).2.2.1 := by
  unfold run1' run1
  simp only [st1, Scf.Loop.trips, k1_t1_loop, mRead]

theorem run1_W5 : (run1' c i M0 h0 M1 h1 M2 h2 M3 h3 M4 h4 M5 h5 M6 h6 f0 f1 f2 f3 f4 f5 f6).2.2.2.1
    = M5.view.writes (Elt F) f5 (st1 c i M0 h0 M1 h1 M2 h2 M3 h3 M4 h4 M5 h5 M6 h6 f0 f1 (k1_t1_loop i).trips).2.2.2.1 := by
  unfold run1' run1
  simp only [st1, Scf.Loop.trips, k1_t1_loop, mRead]

theorem run1_W6 : (run1' c i M0 h0 M1 h1 M2 h2 M3 h3 M4 h4 M5 h5 M6 h6 f0 f1 f2 f3 f4 f5 f6).2.2.2.2.1
    = M6.view.writes (Elt F) f6 (st1 c i M0 h0 M1 h1 M2 h2 M3 h3 M4 h4 M5 h5 M6 h6 f0 f1 (k1_t1_loop i).trips).2.2.2.2 := by
  unfold run1' run1
  simp only [st1, Scf.Loop.trips, k1_t1_loop, mRead]

/-- The decoded tokens. -/
theorem run1_hat (y : S1x400x16x128.Idx) (hy : (y 1).val < nTok i) :
    M2.view.read (Elt F) (run1' c i M0 h0 M1 h1 M2 h2 M3 h3 M4 h4 M5 h5 M6 h6 f0 f1 f2 f3 f4 f5 f6).1 y
      = gHat (nTok i) (M0.view.read (Elt F) f0) (M1.view.read (Elt F) f1) y := by
  have htr := trips1 i
  rw [run1_W2]
  refine View.read_writes_apply_of_pieces _ _ _ _ (fun p hp x => ?_) y ?_
  · refine all_of_grow (Ls := fun k => (st1 c i M0 h0 M1 h1 M2 h2 M3 h3 M4 h4 M5 h5 M6 h6 f0 f1 k).2.1)
      (fun p => ∀ x, p.2 x = gHat _ _ _ (p.1.emb x)) rfl (grow_hat c i M0 h0 M1 h1 M2 h2 M3 h3 M4 h4 M5 h5 M6 h6 f0 f1) ?_ _ le_rfl p hp x
    intro k p hp x
    obtain ⟨a, -, rfl⟩ := List.mem_map.mp hp
    exact pHat_val c i M0 M1 f0 f1 k a x
  · have hk : (y 1).val / 20 < (k1_t1_loop i).trips := by omega
    refine ⟨_, mem_of_grow (Ls := fun k => (st1 c i M0 h0 M1 h1 M2 h2 M3 h3 M4 h4 M5 h5 M6 h6 f0 f1 k).2.1)
      (grow_hat c i M0 h0 M1 h1 M2 h2 M3 h3 M4 h4 M5 h5 M6 h6 f0 f1) ⟨(y 1).val / 20, hk⟩
      (List.mem_map_of_mem (a := (⟨(y 1).val / 10 % 2, by omega⟩, ⟨(y 1).val % 10, by omega⟩)) ?_) _ hk le_rfl, ?_⟩
    · exact (by decide : ∀ (a : Fin 2) (b : Fin 10), (a, b) ∈ places20) _ _
    · refine mem_row (q := 400) _ (k1_off3_inb i _ _ _) _ (k1_off3_eq i _ _ _) y ?_
      dsimp only
      omega

/-- The anchors' codes. -/
theorem run1_ac (y : S1x40x16x128.Idx) (hy : (y 1).val < 2 * ((nTok i + 19) / 20)) :
    M3.view.read (Elt F) (run1' c i M0 h0 M1 h1 M2 h2 M3 h3 M4 h4 M5 h5 M6 h6 f0 f1 f2 f3 f4 f5 f6).2.1 y
      = gAc (nTok i) (M0.view.read (Elt F) f0) (M1.view.read (Elt F) f1) y := by
  have htr := trips1 i
  rw [run1_W3]
  refine View.read_writes_apply_of_pieces _ _ _ _ (fun p hp x => ?_) y ?_
  · refine all_of_grow (Ls := fun k => (st1 c i M0 h0 M1 h1 M2 h2 M3 h3 M4 h4 M5 h5 M6 h6 f0 f1 k).2.2.1)
      (fun p => ∀ x, p.2 x = gAc _ _ _ (p.1.emb x)) rfl (grow_ac c i M0 h0 M1 h1 M2 h2 M3 h3 M4 h4 M5 h5 M6 h6 f0 f1) ?_ _ le_rfl p hp x
    intro k p hp x
    obtain ⟨a, -, rfl⟩ := List.mem_map.mp hp
    exact pAc_val c i M0 M1 f0 f1 k a x
  · have hk : (y 1).val / 2 < (k1_t1_loop i).trips := by omega
    refine ⟨_, mem_of_grow (Ls := fun k => (st1 c i M0 h0 M1 h1 M2 h2 M3 h3 M4 h4 M5 h5 M6 h6 f0 f1 k).2.2.1)
      (grow_ac c i M0 h0 M1 h1 M2 h2 M3 h3 M4 h4 M5 h5 M6 h6 f0 f1) ⟨(y 1).val / 2, hk⟩
      (List.mem_map_of_mem (a := ⟨(y 1).val % 2, by omega⟩) ?_) _ hk le_rfl, ?_⟩
    · exact (by decide : ∀ a : Fin 2, a ∈ places2) _
    · refine mem_row (q := 40) _ (k1_off2_inb i _ _) _ (k1_off2_eq i _ _) y ?_
      dsimp only
      omega

/-- The deltas' scales. -/
theorem run1_ds (y : S1x40x16x128.Idx) (hy : (y 1).val < 2 * ((nTok i + 19) / 20)) :
    M6.view.read (Elt F) (run1' c i M0 h0 M1 h1 M2 h2 M3 h3 M4 h4 M5 h5 M6 h6 f0 f1 f2 f3 f4 f5 f6).2.2.2.2.1 y
      = gDs (nTok i) (M0.view.read (Elt F) f0) (M1.view.read (Elt F) f1) y := by
  have htr := trips1 i
  rw [run1_W6]
  refine View.read_writes_apply_of_pieces _ _ _ _ (fun p hp x => ?_) y ?_
  · refine all_of_grow (Ls := fun k => (st1 c i M0 h0 M1 h1 M2 h2 M3 h3 M4 h4 M5 h5 M6 h6 f0 f1 k).2.2.2.2)
      (fun p => ∀ x, p.2 x = gDs _ _ _ (p.1.emb x)) rfl (grow_ds c i M0 h0 M1 h1 M2 h2 M3 h3 M4 h4 M5 h5 M6 h6 f0 f1) ?_ _ le_rfl p hp x
    intro k p hp x
    obtain ⟨a, -, rfl⟩ := List.mem_map.mp hp
    exact pDs_val c i M0 M1 f0 f1 k a x
  · have hk : (y 1).val / 2 < (k1_t1_loop i).trips := by omega
    refine ⟨_, mem_of_grow (Ls := fun k => (st1 c i M0 h0 M1 h1 M2 h2 M3 h3 M4 h4 M5 h5 M6 h6 f0 f1 k).2.2.2.2)
      (grow_ds c i M0 h0 M1 h1 M2 h2 M3 h3 M4 h4 M5 h5 M6 h6 f0 f1) ⟨(y 1).val / 2, hk⟩
      (List.mem_map_of_mem (a := ⟨(y 1).val % 2, by omega⟩) ?_) _ hk le_rfl, ?_⟩
    · exact (by decide : ∀ a : Fin 2, a ∈ places2) _
    · refine mem_row (q := 40) _ (k1_off2_inb i _ _) _ (k1_off2_eq i _ _) y ?_
      dsimp only
      omega

/-- The packed delta codes. -/
theorem run1_dc (y : S1x200x16x128.Idx) (hy : (y 1).val < 10 * ((nTok i + 19) / 20)) :
    M5.view.read (Elt F) (run1' c i M0 h0 M1 h1 M2 h2 M3 h3 M4 h4 M5 h5 M6 h6 f0 f1 f2 f3 f4 f5 f6).2.2.2.1 y
      = gDc (nTok i) (M0.view.read (Elt F) f0) (M1.view.read (Elt F) f1) y := by
  have htr := trips1 i
  rw [run1_W5]
  refine View.read_writes_apply_of_pieces _ _ _ _ (fun p hp x => ?_) y ?_
  · refine all_of_grow (Ls := fun k => (st1 c i M0 h0 M1 h1 M2 h2 M3 h3 M4 h4 M5 h5 M6 h6 f0 f1 k).2.2.2.1)
      (fun p => ∀ x, p.2 x = gDc _ _ _ (p.1.emb x)) rfl (grow_dc c i M0 h0 M1 h1 M2 h2 M3 h3 M4 h4 M5 h5 M6 h6 f0 f1) ?_ _ le_rfl p hp x
    intro k p hp x
    obtain ⟨a, -, rfl⟩ := List.mem_map.mp hp
    exact pDc_val c i M0 M1 f0 f1 k a x
  · have hk : (y 1).val / 10 < (k1_t1_loop i).trips := by omega
    refine ⟨_, mem_of_grow (Ls := fun k => (st1 c i M0 h0 M1 h1 M2 h2 M3 h3 M4 h4 M5 h5 M6 h6 f0 f1 k).2.2.2.1)
      (grow_dc c i M0 h0 M1 h1 M2 h2 M3 h3 M4 h4 M5 h5 M6 h6 f0 f1) ⟨(y 1).val / 10, hk⟩
      (List.mem_map_of_mem (a := ⟨(y 1).val % 10, by omega⟩) ?_) _ hk le_rfl, ?_⟩
    · exact (by decide : ∀ a : Fin 10, a ∈ places10) _
    · refine mem_row (q := 200) _ (k1_off4_inb i _ _) _ (k1_off4_eq i _ _) y ?_
      dsimp only
      omega

/-- The anchors' scale. -/
theorem run1_as :
    M4.view.read (Elt F) (run1' c i M0 h0 M1 h1 M2 h2 M3 h3 M4 h4 M5 h5 M6 h6 f0 f1 f2 f3 f4 f5 f6).2.2.1
      = gAs (M1.view.read (Elt F) f1) := by
  funext y
  unfold run1' run1
  dsimp only
  unfold run1.sl.H4_1
  refine View.read_writes_apply_of_pieces _ _ _ _ (fun p hp x => ?_) y ?_
  · obtain rfl := List.mem_singleton.mp hp
    dsimp only
    have h0 : (x 0).val < 1 := (x 0).isLt
    have h1 : (x 1).val < 16 := (x 1).isLt
    have h2 : (x 2).val < 128 := (x 2).isLt
    have hx : (Rect.unit (s := S1x16x128) ![0, 0, 0] ![1, 16, 128] inb_S1x16x128_S1x16x128_0_0_0).emb x = at3 0 (x 1).val (x 2).val := by
      symm
      refine at3_eq _ ?_ ?_ ?_ <;> rw [ValueKit.rect_emb_unit_val] <;> simp <;> omega
    rw [hx]
    show shapeCast S1x16x128 (scV (mRead c M1 f1)) _ x = _
    rw [cast_up3]
    unfold scV gAs
    rw [mRead_eq, cast_down3]
    simp only [at2_val0, at2_val1, Nat.mod_eq_of_lt h1, Nat.mod_eq_of_lt h2]
  · refine ⟨_, List.mem_singleton_self _, ?_⟩
    rw [Rect.mem_set_unit]
    intro a
    have := (y a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩

end

end Cert.Codec
-- ==== Proof.Body0Val.lean ====
/-
  WHAT THE FIRST PASS'S BODY LEAVES, read at an index: the running maximum carried over the block's anchors.
-/
module

public import proofs.«01_k».proof.Proof.Body1Val

@[expose] public section

set_option maxRecDepth 8192

noncomputable section

namespace Cert.Codec

open Cert.KernelIdeal Cert.KernelIdeal.Gen
open Idealize.ShloMosaic
open Idealize.ShloMosaic.TcCoe

variable {F : FTy → Type} [FloatOps F]

/-- The tokens of block `i` (the first pass's grid is the second's). -/
abbrev nTok0 (i : grid0.Coords) : ℕ := min 400 (8192 - 400 * (i 1).val)

theorem trips0 : ∀ i : grid0.Coords, (k0_t1_loop i).trips = (nTok0 i + 9) / 10 := by decide +kernel

section
variable (c : Dev nD) (i : grid0.Coords) (M0 : Memref sig .tc .vmem S1x400x16x128 .bf16) (h0 : M0.IsWhole)
  (M1 : Memref sig .tc .vmem S1x16x128 .f32) (h1 : M1.IsWhole) (f0 : Bf (F := F) c M0) (f1 : Bf (F := F) c M1)

theorem st0_eq (init : FVec F S16x128 .f32) (j : S16x128.Idx) : ∀ k ≤ (k0_t1_loop i).trips,
    st_k0_t1 Variants.none c none i M0 h0 M1 h1 f0 init k j
      = amaxFrom (init j) (anch (M0.view.read (Elt F) f0) 0 (j 0).val (j 1).val) k
  | 0, _ => rfl
  | k + 1, hk => by
    rw [st_k0_t1_succ Variants.none c none i M0 h0 M1 h1 f0 init ⟨k, hk⟩]
    unfold tripR_k0_t1 trip_k0_t1
    show FloatOps.maximumf (st_k0_t1 Variants.none c none i M0 h0 M1 h1 f0 init k j)
      (FloatOps.absf (wide (shapeCast S16x128 (M0.view.readAt (Elt F) (Rect.unit (s := S1x400x16x128) (k0_off1 i ⟨k, hk⟩) S1x1x16x128.size
        (k0_off1_inb i ⟨k, hk⟩)).toLoadRect f0) shapeCasts_S1x1x16x128_S16x128 j))) = _
    rw [st0_eq init j k (by omega), row_read (q := 400) M0 f0 _ _ _ (k0_off1_eq i ⟨k, hk⟩)]
    rfl

/-- A whole store of the heads and channels, over earlier ones, reads back as what was stored. -/
theorem read_whole3 {sp : Space} (M : Memref sig .tc sp S1x16x128 .f32) (f : BufTy.Contents (Elt F) M.view.ty) (w : FVec F S16x128 .f32) (h)
    (L : List (View.Piece (Elt F) S1x16x128 .f32)) (y : S1x16x128.Idx) :
    M.view.read (Elt F) (M.view.writes (Elt F) f (⟨Rect.unit (s := S1x16x128) ![0, 0, 0] ![1, 16, 128] inb_S1x16x128_S1x16x128_0_0_0,
      shapeCast S1x16x128 w h⟩ :: L)) y = w (at2 (y 1).val (y 2).val) := by
  have h0 : (y 0).val < 1 := (y 0).isLt
  have e : (Rect.unit (s := S1x16x128) ![0, 0, 0] ![1, 16, 128] inb_S1x16x128_S1x16x128_0_0_0).emb y = y := by
    funext a
    apply Fin.ext
    rw [ValueKit.rect_emb_unit_val]
    match a with
    | ⟨0, _⟩ => exact Nat.zero_add _
    | ⟨1, _⟩ => exact Nat.zero_add _
    | ⟨2, _⟩ => exact Nat.zero_add _
  have := View.read_writes_cons_emb (v := M.view) (Val := Elt F) f
    (Rect.unit (s := S1x16x128) ![0, 0, 0] ![1, 16, 128] inb_S1x16x128_S1x16x128_0_0_0) (shapeCast S1x16x128 w h) L y
  rw [e] at this
  rw [this]
  exact cast_up3 _ _ y

theorem run0A_val (hi : first0 i = 1#1) (y : S1x16x128.Idx) :
    M1.view.read (Elt F) (run0A c i M0 h0 M1 h1 hi f0 f1).1 y
      = amaxUpTo (anch (M0.view.read (Elt F) f0) 0 (y 1).val (y 2).val) ((nTok0 i + 9) / 10) := by
  have hy1 : (y 1).val < 16 := (y 1).isLt
  have hy2 : (y 2).val < 128 := (y 2).isLt
  unfold run0A
  dsimp only
  refine (read_whole3 M1 _ _ _ _ y).trans ?_
  refine (st0_eq c i M0 h0 M1 h1 f0 _ (at2 (y 1).val (y 2).val) (k0_t1_loop i).trips le_rfl).trans ?_
  rw [trips0]
  simp only [at2_val0, at2_val1, Nat.mod_eq_of_lt hy1, Nat.mod_eq_of_lt hy2]
  rw [← amaxFrom_zero]
  congr 1
  show shapeCast S16x128 (run0A.sl.v8 M1) shapeCasts_S1x16x128_S16x128 _ = _
  rw [cast_down3]
  unfold run0A.sl.v8 run0A.sl.H1_1
  have e := View.readCov_unit_lit (Val := Elt F) M1.view (off := ![0, 0, 0]) inb_S1x16x128_S1x16x128_0_0_0 (k0_pay1 (F := F)) (by decide)
  exact congrFun e _

theorem run0B_val (hi : ¬ first0 i = 1#1) (y : S1x16x128.Idx) :
    M1.view.read (Elt F) (run0B c i M0 h0 M1 h1 hi f0 f1).1 y
      = amaxFrom (M1.view.read (Elt F) f1 y) (anch (M0.view.read (Elt F) f0) 0 (y 1).val (y 2).val) ((nTok0 i + 9) / 10) := by
  have hy0 : (y 0).val < 1 := (y 0).isLt
  have hy1 : (y 1).val < 16 := (y 1).isLt
  have hy2 : (y 2).val < 128 := (y 2).isLt
  unfold run0B
  dsimp only
  refine (read_whole3 M1 _ _ _ _ y).trans ?_
  refine (st0_eq c i M0 h0 M1 h1 f0 _ (at2 (y 1).val (y 2).val) (k0_t1_loop i).trips le_rfl).trans ?_
  rw [trips0]
  simp only [at2_val0, at2_val1, Nat.mod_eq_of_lt hy1, Nat.mod_eq_of_lt hy2]
  congr 1
  show shapeCast S16x128 (mRead c M1 f1) shapeCasts_S1x16x128_S16x128 _ = _
  rw [mRead_eq, cast_down3]
  simp only [at2_val0, at2_val1, Nat.mod_eq_of_lt hy1, Nat.mod_eq_of_lt hy2]
  rw [at3_eq y (by omega) rfl rfl]

end

end Cert.Codec
-- ==== Proof.Blocks.lean ====
/-
  ONE BLOCK OF THE ARRAY: what the two bodies leave in their result blocks, stated by the whole arrays. A block's tokens
  are the array's rows from `400 * j` on, as many as the array still has.
-/
module

public import proofs.«01_k».proof.Proof.Body0Val

@[expose] public section

set_option maxRecDepth 8192

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block at grid point `i` holds the array's tokens. -/
def IsBlk (i : grid1.Coords) (A : S3x8192x16x128.Idx → F .bf16) (X : S1x400x16x128.Idx → F .bf16) : Prop :=
  ∀ y : S1x400x16x128.Idx, (y 1).val < nTok i → X y = A (at4 (i 0).val (400 * (i 1).val + (y 1).val) (y 2).val (y 3).val)

theorem i1_lt (i : grid1.Coords) : (i 1).val < 21 := (i 1).isLt
theorem i0_lt (i : grid1.Coords) : (i 0).val < 3 := (i 0).isLt

section
variable {i : grid1.Coords} {A : S3x8192x16x128.Idx → F .bf16} {X : S1x400x16x128.Idx → F .bf16} (hX : IsBlk i A X)
include hX

theorem blk_at (r h d : ℕ) (hr : r < nTok i) (hh : h < 16) (hd : d < 128) :
    X (at4 0 r h d) = A (at4 (i 0).val (400 * (i 1).val + r) h d) := by
  have hr' : r < 400 := lt_of_lt_of_le hr (Nat.min_le_left _ _)
  rw [hX _ (by rw [at4_val1, Nat.mod_eq_of_lt hr']; exact hr)]
  simp only [at4_val1, at4_val2, at4_val3, Nat.mod_eq_of_lt hr', Nat.mod_eq_of_lt hh, Nat.mod_eq_of_lt hd]

theorem anch_blk (g h d : ℕ) (hg : 10 * g < nTok i) (hh : h < 16) (hd : d < 128) :
    anch X 0 h d g = anch A (i 0).val h d (40 * (i 1).val + g) := by
  unfold anch
  rw [blk_at hX _ _ _ hg hh hd]
  congr 2; omega

theorem tok_blk (g h d : ℕ) (hg : g < 40) (hh : h < 16) (hd : d < 128) :
    tok X 0 (nTok i) g h d = tok A (i 0).val 8192 (40 * (i 1).val + g) h d := by
  have := i1_lt i
  have hn : nTok i = min 400 (8192 - 400 * (i 1).val) := rfl
  funext t
  unfold tok
  rw [blk_at hX _ _ _ (by omega) hh hd]
  congr 2
  omega

variable {M : S3x16x128.Idx → F .f32} {N : S1x16x128.Idx → F .f32} (hN : ∀ y : S1x16x128.Idx, N y = M (at3 (i 0).val (y 1).val (y 2).val))
include hN
omit hX in
theorem sc_blk (h d : ℕ) (hh : h < 16) (hd : d < 128) : scAt N 0 h d = scAt M (i 0).val h d := by
  unfold scAt
  rw [hN]
  simp only [at3_val1, at3_val2, Nat.mod_eq_of_lt hh, Nat.mod_eq_of_lt hd]

theorem gHat_blk (y : S1x400x16x128.Idx) (hy : (y 1).val < nTok i) :
    gHat (nTok i) X N y = gHat 8192 A M (at4 (i 0).val (400 * (i 1).val + (y 1).val) (y 2).val (y 3).val : S3x8192x16x128.Idx) := by
  have h0 : (y 0).val = 0 := by have : (y 0).val < 1 := (y 0).isLt; omega
  have h1 : (y 1).val < 400 := (y 1).isLt
  have h2 : (y 2).val < 16 := (y 2).isLt
  have h3 : (y 3).val < 128 := (y 3).isLt
  have := i1_lt i; have i0 := i0_lt i
  have hn : nTok i = min 400 (8192 - 400 * (i 1).val) := rfl
  unfold gHat
  simp only [at4_val0, at4_val1, at4_val2, at4_val3, Nat.mod_eq_of_lt h2, Nat.mod_eq_of_lt h3, Nat.mod_eq_of_lt i0, h0,
    Nat.mod_eq_of_lt (show 400 * (i 1).val + (y 1).val < 8192 by omega)]
  rw [sc_blk hN _ _ h2 h3, tok_blk hX _ _ _ (by omega) h2 h3, show (400 * (i 1).val + (y 1).val) / 10 = 40 * (i 1).val + (y 1).val / 10 by omega,
    show (400 * (i 1).val + (y 1).val) % 10 = (y 1).val % 10 by omega]

theorem gAc_blk (y : S1x40x16x128.Idx) (hy : 40 * (i 1).val + (y 1).val < 820) :
    gAc (nTok i) X N y = gAc 8192 A M (at4 (i 0).val (40 * (i 1).val + (y 1).val) (y 2).val (y 3).val : S3x820x16x128.Idx) := by
  have h0 : (y 0).val = 0 := by have : (y 0).val < 1 := (y 0).isLt; omega
  have h1 : (y 1).val < 40 := (y 1).isLt
  have h2 : (y 2).val < 16 := (y 2).isLt
  have h3 : (y 3).val < 128 := (y 3).isLt
  have i0 := i0_lt i
  unfold gAc
  simp only [at4_val0, at4_val1, at4_val2, at4_val3, Nat.mod_eq_of_lt h2, Nat.mod_eq_of_lt h3, Nat.mod_eq_of_lt i0, h0, Nat.mod_eq_of_lt hy]
  rw [sc_blk hN _ _ h2 h3, tok_blk hX _ _ _ (by omega) h2 h3]

theorem gDs_blk (y : S1x40x16x128.Idx) (hy : 40 * (i 1).val + (y 1).val < 820) :
    gDs (nTok i) X N y = gDs 8192 A M (at4 (i 0).val (40 * (i 1).val + (y 1).val) (y 2).val (y 3).val : S3x820x16x128.Idx) := by
  have h0 : (y 0).val = 0 := by have : (y 0).val < 1 := (y 0).isLt; omega
  have h1 : (y 1).val < 40 := (y 1).isLt
  have h2 : (y 2).val < 16 := (y 2).isLt
  have h3 : (y 3).val < 128 := (y 3).isLt
  have i0 := i0_lt i
  unfold gDs
  simp only [at4_val0, at4_val1, at4_val2, at4_val3, Nat.mod_eq_of_lt h2, Nat.mod_eq_of_lt h3, Nat.mod_eq_of_lt i0, h0, Nat.mod_eq_of_lt hy]
  rw [sc_blk hN _ _ h2 h3, tok_blk hX _ _ _ (by omega) h2 h3]

theorem gDc_blk (y : S1x200x16x128.Idx) (hy : 200 * (i 1).val + (y 1).val < 4096) :
    gDc (nTok i) X N y = gDc 8192 A M (at4 (i 0).val (200 * (i 1).val + (y 1).val) (y 2).val (y 3).val : S3x4096x16x128.Idx) := by
  have h0 : (y 0).val = 0 := by have : (y 0).val < 1 := (y 0).isLt; omega
  have h1 : (y 1).val < 200 := (y 1).isLt
  have h2 : (y 2).val < 16 := (y 2).isLt
  have h3 : (y 3).val < 128 := (y 3).isLt
  have i0 := i0_lt i
  unfold gDc
  simp only [at4_val0, at4_val1, at4_val2, at4_val3, Nat.mod_eq_of_lt h2, Nat.mod_eq_of_lt h3, Nat.mod_eq_of_lt i0, h0, Nat.mod_eq_of_lt hy]
  rw [sc_blk hN _ _ h2 h3, tok_blk hX _ _ _ (by omega) h2 h3, show (200 * (i 1).val + (y 1).val) / 5 = 40 * (i 1).val + (y 1).val / 5 by omega,
    show (200 * (i 1).val + (y 1).val) % 5 = (y 1).val % 5 by omega]

end

/-- The running maxima after head `b`'s first `N` anchors. -/
def acc (A : S3x8192x16x128.Idx → F .bf16) (b N : ℕ) : S1x16x128.Idx → F .f32 := fun y => amaxUpTo (anch A b (y 1).val (y 2).val) N

/-- The anchors up to the end of block `i`. -/
def upTo (i : grid0.Coords) : ℕ := 40 * (i 1).val + (nTok0 i + 9) / 10

/-- The first pass's body on a block: the running maxima it leaves. -/
theorem sound0 (c : Dev nD) (E : Set ℕ) (i : grid0.Coords) (M0 : Memref sig .tc .vmem S1x400x16x128 .bf16) (h0 : M0.IsWhole)
    (M1 : Memref sig .tc .vmem S1x16x128 .f32) (h1 : M1.IsWhole) (A : S3x8192x16x128.Idx → F .bf16)
    (X0 : S1x400x16x128.Idx → F .bf16) (X1 : S1x16x128.Idx → F .f32) (hX : IsBlk i A X0)
    (h : (i 1).val ≠ 0 → X1 = acc A (i 0).val (40 * (i 1).val)) (K : PUnit → sProp 𝕄) :
    iprop(owns (c : Thread nD τ) M0 fullShare X0 ∗ owns (c : Thread nD τ) M1 fullShare X1
        ∗ (iprop(owns (c : Thread nD τ) M0 fullShare X0 ∗ owns (c : Thread nD τ) M1 fullShare (acc A (i 0).val (upTo i))) -∗ K ⟨⟩))
      ⊢ wp frame (wpE (defs₀ (F := F)) Variants.none c none) E (cc0_anchor_amax i M0 h0 M1 h1) K := by
  have hn : nTok i = min 400 (8192 - 400 * (i 1).val) := rfl
  have hn0 : nTok0 i = min 400 (8192 - 400 * (i 1).val) := rfl
  unfold owns
  iintro ⟨⟨%f0, %hf0, H0⟩, ⟨%f1, %hf1, H1⟩, Hk⟩
  by_cases hi : (i 1).val = 0
  · iapply ((run0A c i M0 h0 M1 h1 ((first0_iff i).mpr hi) f0 f1).2 E K)
    isplitl [H0]; · iexact H0
    isplitl [H1]; · iexact H1
    iintro ⟨H0, H1⟩
    iapply Hk
    isplitl [H0]
    · iexists f0; isplitr; · ipureintro; exact hf0
      iexact H0
    iexists _; isplitr; swap; (· iexact H1); ipureintro
    funext y
    rw [run0A_val, hf0]
    unfold acc upTo
    rw [hi, Nat.mul_zero, Nat.zero_add]
    refine amaxUpTo_congr _ fun k hk => ?_
    rw [anch_blk hX _ _ _ (by omega) (y 1).isLt (y 2).isLt, hi, Nat.mul_zero, Nat.zero_add]
  · iapply ((run0B c i M0 h0 M1 h1 (fun e => hi ((first0_iff i).mp e)) f0 f1).2 E K)
    isplitl [H0]; · iexact H0
    isplitl [H1]; · iexact H1
    iintro ⟨H0, H1⟩
    iapply Hk
    isplitl [H0]
    · iexists f0; isplitr; · ipureintro; exact hf0
      iexact H0
    iexists _; isplitr; swap; (· iexact H1); ipureintro
    funext y
    rw [run0B_val, hf0, hf1, h hi]
    unfold acc upTo
    rw [← amaxFrom_amaxUpTo]
    refine amaxFrom_congr _ _ fun k hk => ?_
    rw [anch_blk hX _ _ _ (by omega) (y 1).isLt (y 2).isLt]

/-- The second pass's body on a block: each result block holds, on the rows the array has, the array's results. -/
theorem sound1 (c : Dev nD) (E : Set ℕ) (i : grid1.Coords) (M0 : Memref sig .tc .vmem S1x400x16x128 .bf16) (h0 : M0.IsWhole)
    (M1 : Memref sig .tc .vmem S1x16x128 .f32) (h1 : M1.IsWhole) (M2 : Memref sig .tc .vmem S1x400x16x128 .bf16) (h2 : M2.IsWhole)
    (M3 : Memref sig .tc .vmem S1x40x16x128 .i8) (h3 : M3.IsWhole) (M4 : Memref sig .tc .vmem S1x16x128 .f32) (h4 : M4.IsWhole)
    (M5 : Memref sig .tc .vmem S1x200x16x128 .i8) (h5 : M5.IsWhole) (M6 : Memref sig .tc .vmem S1x40x16x128 .f32) (h6 : M6.IsWhole)
    (A : S3x8192x16x128.Idx → F .bf16) (M : S3x16x128.Idx → F .f32)
    (X0 : S1x400x16x128.Idx → F .bf16) (X1 : S1x16x128.Idx → F .f32) (hX : IsBlk i A X0)
    (hN : ∀ y : S1x16x128.Idx, X1 y = M (at3 (i 0).val (y 1).val (y 2).val)) (X2 X3 X4 X5 X6) (K : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6
        ∗ (∀ Y2 Y3 Y5 Y6,
            ⌜(∀ y : S1x400x16x128.Idx, 400 * (i 1).val + (y 1).val < 8192 →
                Y2 y = gHat 8192 A M (at4 (i 0).val (400 * (i 1).val + (y 1).val) (y 2).val (y 3).val : S3x8192x16x128.Idx))
              ∧ (∀ y : S1x40x16x128.Idx, 40 * (i 1).val + (y 1).val < 820 →
                Y3 y = gAc 8192 A M (at4 (i 0).val (40 * (i 1).val + (y 1).val) (y 2).val (y 3).val : S3x820x16x128.Idx))
              ∧ (∀ y : S1x200x16x128.Idx, 200 * (i 1).val + (y 1).val < 4096 →
                Y5 y = gDc 8192 A M (at4 (i 0).val (200 * (i 1).val + (y 1).val) (y 2).val (y 3).val : S3x4096x16x128.Idx))
              ∧ (∀ y : S1x40x16x128.Idx, 40 * (i 1).val + (y 1).val < 820 →
                Y6 y = gDs 8192 A M (at4 (i 0).val (40 * (i 1).val + (y 1).val) (y 2).val (y 3).val : S3x820x16x128.Idx))⌝
            -∗ iprop(owns (c : Thread nD τ) M0 fullShare X0 ∗ owns (c : Thread nD τ) M1 fullShare X1 ∗ owns (c : Thread nD τ) M2 fullShare Y2
              ∗ owns (c : Thread nD τ) M3 fullShare Y3 ∗ owns (c : Thread nD τ) M4 fullShare (gAs X1) ∗ owns (c : Thread nD τ) M5 fullShare Y5
              ∗ owns (c : Thread nD τ) M6 fullShare Y6) -∗ K ⟨⟩))
      ⊢ wp frame (wpE (defs₀ (F := F)) Variants.none c none) E (cc1_codec i M0 h0 M1 h1 M2 h2 M3 h3 M4 h4 M5 h5 M6 h6) K := by
  have hn : nTok i = min 400 (8192 - 400 * (i 1).val) := rfl
  have hi := i1_lt i
  unfold owns
  iintro ⟨⟨%f0, %hf0, H0⟩, ⟨%f1, %hf1, H1⟩, ⟨%f2, -, H2⟩, ⟨%f3, -, H3⟩, ⟨%f4, -, H4⟩, ⟨%f5, -, H5⟩, ⟨%f6, -, H6⟩, Hk⟩
  iapply ((run1 c i M0 h0 M1 h1 M2 h2 M3 h3 M4 h4 M5 h5 M6 h6 f0 f1 f2 f3 f4 f5 f6).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk $$ %(M2.view.read (Elt F) (run1' c i M0 h0 M1 h1 M2 h2 M3 h3 M4 h4 M5 h5 M6 h6 f0 f1 f2 f3 f4 f5 f6).1)
    %(M3.view.read (Elt F) (run1' c i M0 h0 M1 h1 M2 h2 M3 h3 M4 h4 M5 h5 M6 h6 f0 f1 f2 f3 f4 f5 f6).2.1)
    %(M5.view.read (Elt F) (run1' c i M0 h0 M1 h1 M2 h2 M3 h3 M4 h4 M5 h5 M6 h6 f0 f1 f2 f3 f4 f5 f6).2.2.2.1)
    %(M6.view.read (Elt F) (run1' c i M0 h0 M1 h1 M2 h2 M3 h3 M4 h4 M5 h5 M6 h6 f0 f1 f2 f3 f4 f5 f6).2.2.2.2.1)
  · ipureintro
    refine ⟨fun y hy => ?_, fun y hy => ?_, fun y hy => ?_, fun y hy => ?_⟩
    · have h1 : (y 1).val < 400 := (y 1).isLt
      rw [run1_hat (hy := by omega), hf0, hf1]
      exact gHat_blk hX hN y (by omega)
    · have h1 : (y 1).val < 40 := (y 1).isLt
      rw [run1_ac (hy := by omega), hf0, hf1]
      exact gAc_blk hX hN y hy
    · have h1 : (y 1).val < 200 := (y 1).isLt
      rw [run1_dc (hy := by omega), hf0, hf1]
      exact gDc_blk hX hN y hy
    · have h1 : (y 1).val < 40 := (y 1).isLt
      rw [run1_ds (hy := by omega), hf0, hf1]
      exact gDs_blk hX hN y hy
  isplitl [H0]
  · iexists f0; isplitr; · ipureintro; exact hf0
    iexact H0
  isplitl [H1]
  · iexists f1; isplitr; · ipureintro; exact hf1
    iexact H1
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rw [← hf1]; exact run1_as c i M0 h0 M1 h1 M2 h2 M3 h3 M4 h4 M5 h5 M6 h6 f0 f1 f2 f3 f4 f5 f6
  isplitl [H5]
  · iexists _; isplitr; swap; (· iexact H5); ipureintro; rfl
  iexists _; isplitr; swap; (· iexact H6); ipureintro; rfl

end Cert.Codec
-- ==== Proof.Region0.lean ====
/-
  THE FIRST PASS OF THE FIRST CALL, over the whole grid: its proof data, the body's obligation at each point, and the
  array it leaves — the maximum of the absolute values of each column's anchors.
-/
module

public import proofs.«01_k».proof.Proof.Blocks
public import proofs.«01_k».proof.Proof.Gen.KernelIdeal.Points
public import proofs.«01_k».proof.Proof.Gen.KernelIdeal.Regions

@[expose] public section

set_option maxRecDepth 16384

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The maxima over all of a column's anchors. -/
def amaxAll (A : S3x8192x16x128.Idx → F .bf16) : S3x16x128.Idx → F .f32 := fun y =>
  amaxUpTo (anch A (y 0).val (y 1).val (y 2).val) 820

theorem upTo_last : ∀ i : grid0.Coords, (i 1).val = 20 → upTo i = 820 := by decide +kernel
theorem upTo_before : ∀ i i' : grid0.Coords, (i 1).val = (i' 1).val + 1 → upTo i' = 40 * (i 1).val := by
  intro i i' h
  have h1 : (i 1).val < 21 := (i 1).isLt
  unfold upTo nTok0
  omega

namespace R0

theorem co0 : ∀ t : Fin grid0.N, (grid0.coords t 0).val = t.val / 21 := by decide +kernel
theorem co1 : ∀ t : Fin grid0.N, (grid0.coords t 1).val = t.val % 21 := by decide +kernel
theorem ix0 : ∀ t : Fin grid0.N, win0_0.index t = ![(grid0.coords t 0).val, (grid0.coords t 1).val, 0, 0] := by decide +kernel
theorem ix1 : ∀ t : Fin grid0.N, win0_1.index t = ![(grid0.coords t 0).val, 0, 0] := by decide +kernel
theorem xs0 : ∀ t : Fin grid0.N, ∀ a, win0_0.xsize (grid0.coords t) a = (![1, nTok (grid0.coords t), 16, 128] : Fin 4 → ℕ) a := by decide +kernel

theorem isBlk (t : Fin grid0.N) (A : S3x8192x16x128.Idx → F .bf16) (d : S1x400x16x128.Idx → F .bf16) :
    IsBlk (grid0.coords t) A (win0_0.fill (grid0.coords t) d ((win0_0.blk t).view.read (Elt F) A)) := by
  intro y hy
  have hm : win0_0.moved (grid0.coords t) y = true := (win0_0.moved_iff _ _).mpr fun a => by
    rw [xs0 t a]
    match a with
    | ⟨0, _⟩ => exact (y 0).isLt
    | ⟨1, _⟩ => exact hy
    | ⟨2, _⟩ => exact (y 2).isLt
    | ⟨3, _⟩ => exact (y 3).isLt
  have h0 : (y 0).val < 1 := (y 0).isLt
  unfold Window.fill
  rw [dif_pos hm]
  refine congrArg A (at4_eq _ ?_ ?_ ?_ ?_).symm
  · blk_simp [ix0 t]; dsimp only; omega
  · blk_simp [ix0 t]; dsimp only; omega
  · blk_simp [ix0 t]
  · blk_simp [ix0 t]

variable (V : (c : Dev nD) → Valuation τ sig (Elt F))

/-- The proof data: the input's block as fetched; the running maxima; nothing owed. -/
def dat (c : Dev nD) : Dat τ (Elt F) Unit ℕ (UR sig nD τ) ℕ cfg0 c where
  A w := V c (Pipeline.arrRef spec0 w)
  after w t := match w with
    | ⟨0, _⟩ => win0_0.fill (grid0.coords t) (fun _ => Scalar.ofBits .bf16 0#16) ((win0_0.blk t).view.read (Elt F) (V c main_arg0))
    | ⟨1, _⟩ => acc (V c main_arg0) (grid0.coords t 0).val (upTo (grid0.coords t))
  Φ _ := Pipeline.scopedRest (Ix := Unit) (Name := ℕ) (U := UR sig nD τ) (Lvl := ℕ) (Val := Elt F) spec0 c
  q _ := fullShare
  owed _ := 0

theorem before_0 (c : Dev nD) (t : Fin cfg0.N) (d) : (dat V c).before (0 : Fin 2) t d
    = win0_0.fill (grid0.coords t) d ((win0_0.blk t).view.read (Elt F) (V c main_arg0)) := by
  unfold Dat.before; rw [if_pos (fetch0_0 t)]; rfl

theorem before_1 (c : Dev nD) (t : Fin cfg0.N) (h : (grid0.coords t 1).val ≠ 0) (d) : (dat V c).before (1 : Fin 2) t d
    = acc (V c main_arg0) (grid0.coords t 0).val (40 * (grid0.coords t 1).val) := by
  rw [co1] at h
  have ht : t.val ≠ 0 := by intro e; rw [e] at h; exact h rfl
  have hlt : t.val - 1 < cfg0.N := Nat.lt_of_le_of_lt (Nat.sub_le _ _) t.isLt
  have hfl : (cfg0.win (1 : Fin 2)).flush ⟨t.val - 1, hlt⟩ = false := by
    rw [Bool.eq_false_iff]; intro e; have := (flush0_1 _).mp e; simp only at this; omega
  have hc : (grid0.coords t 1).val = (grid0.coords ⟨t.val - 1, hlt⟩ 1).val + 1 := by
    rw [co1, co1]; simp only; omega
  have hb : (grid0.coords t 0).val = (grid0.coords ⟨t.val - 1, hlt⟩ 0).val := by
    rw [co0, co0]; simp only; omega
  rw [(dat V c).before_out_kept (1 : Fin 2) rfl t ht hfl (fun _ => rfl) (fun _ _ => rfl) d, ← upTo_before _ _ hc, hb]
  rfl

theorem body_obligation (c : Dev nD) : BodyObligationLoose (dat V c) (defs₀ (F := F)) Variants.none () Set.univ := fun t => by
  rw [bigSep_W0, bigSep_W0]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩⟩
  rw [before_0 V c t d0]
  iapply (sound0 (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (V c main_arg0) _ ((dat V c).before (1 : Fin 2) t d1)
    (isBlk t (V c main_arg0) d0) (fun h => before_1 V c t h d1) _)
  isplitl [H0]; · iexact H0
  isplitl [H1]; · iexact H1
  iintro ⟨H0, H1⟩
  isplitl [HΦ]; · iexact HΦ
  isplitl [Ho]; · iexact Ho
  isplitl [H0]
  · iexists d0
    have hx : win0_0.cut (grid0.coords t) ((dat V c).after (0 : Fin 2) t) = (win0_0.blk t).view.read (Elt F) (V c main_arg0) :=
      win0_0.cut_fill _ _ _
    change _ ⊢ owns (c : Thread nD τ) (win0_0.stage (cfg0.slots t 0)) fullShare
      (win0_0.fill (grid0.coords t) d0 (win0_0.cut (grid0.coords t) ((dat V c).after (0 : Fin 2) t)))
    rw [hx]; try iexact H0
  · iexact H1

theorem final (c : Dev nD) : (dat V c).arrAt (1 : Fin 2) cfg0.N = amaxAll (V c main_arg0) := by
  refine (dat V c).arrAt_eq_of_covers (1 : Fin 2) _ (by decide +kernel) fun t hf y => ?_
  have h20 := (flush0_1 t).mp hf
  rw [← co1 t] at h20
  have h0 : (y 0).val < 1 := (y 0).isLt
  show acc (V c main_arg0) (grid0.coords t 0).val (upTo (grid0.coords t)) ((cfg0.win (1 : Fin 2)).xinj (grid0.coords t) y) = _
  unfold acc amaxAll
  rw [upTo_last _ h20]
  refine congrArg (fun x => amaxUpTo x 820) ?_
  have e0 : ((win0_1.blk t).view.emb y 0).val = (grid0.coords t 0).val := by blk_simp [ix1 t]
  have e1 : ((win0_1.blk t).view.emb y 1).val = (y 1).val := by blk_simp [ix1 t]
  have e2 : ((win0_1.blk t).view.emb y 2).val = (y 2).val := by blk_simp [ix1 t]
  show anch _ _ (y 1).val (y 2).val = anch _ ((win0_1.blk t).view.emb y 0).val ((win0_1.blk t).view.emb y 1).val ((win0_1.blk t).view.emb y 2).val
  rw [e0, e1, e2]

end R0

end Cert.Codec
-- ==== Proof.Region1.lean ====
/-
  THE SECOND PASS OF THE FIRST CALL, over the whole grid: its proof data, the body's obligation at each point, and the
  five arrays it leaves.
-/
module

public import proofs.«01_k».proof.Proof.Region0

@[expose] public section

set_option maxRecDepth 16384

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

namespace R1

theorem co0 : ∀ t : Fin grid1.N, (grid1.coords t 0).val = t.val / 21 := by decide +kernel
theorem co1 : ∀ t : Fin grid1.N, (grid1.coords t 1).val = t.val % 21 := by decide +kernel
theorem ix0 : ∀ t : Fin grid1.N, win1_0.index t = ![(grid1.coords t 0).val, (grid1.coords t 1).val, 0, 0] := by decide +kernel
theorem ix1 : ∀ t : Fin grid1.N, win1_1.index t = ![(grid1.coords t 0).val, 0, 0] := by decide +kernel
theorem ix2 : ∀ t : Fin grid1.N, win1_2.index t = ![(grid1.coords t 0).val, (grid1.coords t 1).val, 0, 0] := by decide +kernel
theorem ix3 : ∀ t : Fin grid1.N, win1_3.index t = ![(grid1.coords t 0).val, (grid1.coords t 1).val, 0, 0] := by decide +kernel
theorem ix4 : ∀ t : Fin grid1.N, win1_4.index t = ![(grid1.coords t 0).val, 0, 0] := by decide +kernel
theorem ix5 : ∀ t : Fin grid1.N, win1_5.index t = ![(grid1.coords t 0).val, (grid1.coords t 1).val, 0, 0] := by decide +kernel
theorem ix6 : ∀ t : Fin grid1.N, win1_6.index t = ![(grid1.coords t 0).val, (grid1.coords t 1).val, 0, 0] := by decide +kernel
theorem xs0 : ∀ t : Fin grid1.N, ∀ a, win1_0.xsize (grid1.coords t) a = (![1, nTok (grid1.coords t), 16, 128] : Fin 4 → ℕ) a := by decide +kernel
theorem xs2 : ∀ t : Fin grid1.N, 400 * (grid1.coords t 1).val + win1_2.xsize (grid1.coords t) (1 : Fin 4) ≤ 8192 := by decide +kernel
theorem xs3 : ∀ t : Fin grid1.N, 40 * (grid1.coords t 1).val + win1_3.xsize (grid1.coords t) (1 : Fin 4) ≤ 820 := by decide +kernel
theorem xs5 : ∀ t : Fin grid1.N, 200 * (grid1.coords t 1).val + win1_5.xsize (grid1.coords t) (1 : Fin 4) ≤ 4096 := by decide +kernel
theorem xs6 : ∀ t : Fin grid1.N, 40 * (grid1.coords t 1).val + win1_6.xsize (grid1.coords t) (1 : Fin 4) ≤ 820 := by decide +kernel

theorem isBlk (t : Fin grid1.N) (A : S3x8192x16x128.Idx → F .bf16) (d : S1x400x16x128.Idx → F .bf16) :
    IsBlk (grid1.coords t) A (win1_0.fill (grid1.coords t) d ((win1_0.blk t).view.read (Elt F) A)) := by
  intro y hy
  have hm : win1_0.moved (grid1.coords t) y = true := (win1_0.moved_iff _ _).mpr fun a => by
    rw [xs0 t a]
    match a with
    | ⟨0, _⟩ => exact (y 0).isLt
    | ⟨1, _⟩ => exact hy
    | ⟨2, _⟩ => exact (y 2).isLt
    | ⟨3, _⟩ => exact (y 3).isLt
  have h0 : (y 0).val < 1 := (y 0).isLt
  unfold Window.fill
  rw [dif_pos hm]
  refine congrArg A (at4_eq _ ?_ ?_ ?_ ?_).symm
  · blk_simp [ix0 t]; dsimp only; omega
  · blk_simp [ix0 t]; dsimp only; omega
  · blk_simp [ix0 t]
  · blk_simp [ix0 t]

theorem read1 (t : Fin grid1.N) (M : S3x16x128.Idx → F .f32) (y : S1x16x128.Idx) :
    (win1_1.blk t).view.read (Elt F) M y = M (at3 (grid1.coords t 0).val (y 1).val (y 2).val) := by
  have h0 : (y 0).val < 1 := (y 0).isLt
  refine congrArg M (at3_eq _ ?_ ?_ ?_).symm
  · blk_simp [ix1 t]
  · blk_simp [ix1 t]
  · blk_simp [ix1 t]

/-- A result block that holds the array's results on the rows the array has is the array's block, filled out. -/
theorem fill2 (t : Fin grid1.N) (G : S3x8192x16x128.Idx → F .bf16) (Y : S1x400x16x128.Idx → F .bf16)
    (h : ∀ y : S1x400x16x128.Idx, 400 * (grid1.coords t 1).val + (y 1).val < 8192 →
      Y y = G (at4 (grid1.coords t 0).val (400 * (grid1.coords t 1).val + (y 1).val) (y 2).val (y 3).val)) :
    Y = win1_2.fill (grid1.coords t) Y ((win1_2.blk t).view.read (Elt F) G) := by
  refine (win1_2.fill_cut (grid1.coords t) Y).symm.trans (congrArg (win1_2.fill (grid1.coords t) Y) (funext fun j => ?_))
  have h1 : (j 1).val < win1_2.xsize (grid1.coords t) (1 : Fin 4) := (j 1).isLt
  have h0 : (j 0).val < 1 := Nat.lt_of_lt_of_le (j 0).isLt (win1_2.xsize_le _ (0 : Fin 4))
  have h2 := xs2 t
  refine (h _ (show 400 * (grid1.coords t 1).val + (j 1).val < 8192 by omega)).trans (congrArg G (at4_eq _ ?_ ?_ ?_ ?_))
  · blk_simp [ix2 t]; omega
  · blk_simp [ix2 t]; rw [Nat.mul_comm]
  · blk_simp [ix2 t]
  · blk_simp [ix2 t]

theorem fill3 (t : Fin grid1.N) (G : S3x820x16x128.Idx → BitVec 8) (Y : S1x40x16x128.Idx → BitVec 8)
    (h : ∀ y : S1x40x16x128.Idx, 40 * (grid1.coords t 1).val + (y 1).val < 820 →
      Y y = G (at4 (grid1.coords t 0).val (40 * (grid1.coords t 1).val + (y 1).val) (y 2).val (y 3).val)) :
    Y = win1_3.fill (grid1.coords t) Y ((win1_3.blk t).view.read (Elt F) G) := by
  refine (win1_3.fill_cut (grid1.coords t) Y).symm.trans (congrArg (win1_3.fill (grid1.coords t) Y) (funext fun j => ?_))
  have h1 : (j 1).val < win1_3.xsize (grid1.coords t) (1 : Fin 4) := (j 1).isLt
  have h0 : (j 0).val < 1 := Nat.lt_of_lt_of_le (j 0).isLt (win1_3.xsize_le _ (0 : Fin 4))
  have h2 := xs3 t
  refine (h _ (show 40 * (grid1.coords t 1).val + (j 1).val < 820 by omega)).trans (congrArg G (at4_eq _ ?_ ?_ ?_ ?_))
  · blk_simp [ix3 t]; omega
  · blk_simp [ix3 t]; rw [Nat.mul_comm]
  · blk_simp [ix3 t]
  · blk_simp [ix3 t]

theorem fill5 (t : Fin grid1.N) (G : S3x4096x16x128.Idx → BitVec 8) (Y : S1x200x16x128.Idx → BitVec 8)
    (h : ∀ y : S1x200x16x128.Idx, 200 * (grid1.coords t 1).val + (y 1).val < 4096 →
      Y y = G (at4 (grid1.coords t 0).val (200 * (grid1.coords t 1).val + (y 1).val) (y 2).val (y 3).val)) :
    Y = win1_5.fill (grid1.coords t) Y ((win1_5.blk t).view.read (Elt F) G) := by
  refine (win1_5.fill_cut (grid1.coords t) Y).symm.trans (congrArg (win1_5.fill (grid1.coords t) Y) (funext fun j => ?_))
  have h1 : (j 1).val < win1_5.xsize (grid1.coords t) (1 : Fin 4) := (j 1).isLt
  have h0 : (j 0).val < 1 := Nat.lt_of_lt_of_le (j 0).isLt (win1_5.xsize_le _ (0 : Fin 4))
  have h2 := xs5 t
  refine (h _ (show 200 * (grid1.coords t 1).val + (j 1).val < 4096 by omega)).trans (congrArg G (at4_eq _ ?_ ?_ ?_ ?_))
  · blk_simp [ix5 t]; omega
  · blk_simp [ix5 t]; rw [Nat.mul_comm]
  · blk_simp [ix5 t]
  · blk_simp [ix5 t]

theorem fill6 (t : Fin grid1.N) (G : S3x820x16x128.Idx → F .f32) (Y : S1x40x16x128.Idx → F .f32)
    (h : ∀ y : S1x40x16x128.Idx, 40 * (grid1.coords t 1).val + (y 1).val < 820 →
      Y y = G (at4 (grid1.coords t 0).val (40 * (grid1.coords t 1).val + (y 1).val) (y 2).val (y 3).val)) :
    Y = win1_6.fill (grid1.coords t) Y ((win1_6.blk t).view.read (Elt F) G) := by
  refine (win1_6.fill_cut (grid1.coords t) Y).symm.trans (congrArg (win1_6.fill (grid1.coords t) Y) (funext fun j => ?_))
  have h1 : (j 1).val < win1_6.xsize (grid1.coords t) (1 : Fin 4) := (j 1).isLt
  have h0 : (j 0).val < 1 := Nat.lt_of_lt_of_le (j 0).isLt (win1_6.xsize_le _ (0 : Fin 4))
  have h2 := xs6 t
  refine (h _ (show 40 * (grid1.coords t 1).val + (j 1).val < 820 by omega)).trans (congrArg G (at4_eq _ ?_ ?_ ?_ ?_))
  · blk_simp [ix6 t]; omega
  · blk_simp [ix6 t]; rw [Nat.mul_comm]
  · blk_simp [ix6 t]
  · blk_simp [ix6 t]

variable (V : (c : Dev nD) → Valuation τ sig (Elt F))

/-- The five arrays the pass leaves. -/
abbrev G2 (c : Dev nD) : S3x8192x16x128.Idx → F .bf16 := gHat 8192 (V c main_arg0 : S3x8192x16x128.Idx → F .bf16) (V c main_v0 : S3x16x128.Idx → F .f32)
abbrev G3 (c : Dev nD) : S3x820x16x128.Idx → BitVec 8 := gAc 8192 (V c main_arg0 : S3x8192x16x128.Idx → F .bf16) (V c main_v0 : S3x16x128.Idx → F .f32)
abbrev G4 (c : Dev nD) : S3x16x128.Idx → F .f32 := gAs (V c main_v0 : S3x16x128.Idx → F .f32)
abbrev G5 (c : Dev nD) : S3x4096x16x128.Idx → BitVec 8 := gDc 8192 (V c main_arg0 : S3x8192x16x128.Idx → F .bf16) (V c main_v0 : S3x16x128.Idx → F .f32)
abbrev G6 (c : Dev nD) : S3x820x16x128.Idx → F .f32 := gDs 8192 (V c main_arg0 : S3x8192x16x128.Idx → F .bf16) (V c main_v0 : S3x16x128.Idx → F .f32)

/-- The proof data: the inputs' blocks as fetched; each result's block of the array it leaves; nothing owed. -/
def dat (c : Dev nD) : Dat τ (Elt F) Unit ℕ (UR sig nD τ) ℕ cfg1 c where
  A w := V c (Pipeline.arrRef spec1 w)
  after w t := match w with
    | ⟨0, _⟩ => win1_0.fill (grid1.coords t) (fun _ => Scalar.ofBits .bf16 0#16) ((win1_0.blk t).view.read (Elt F) (V c main_arg0))
    | ⟨1, _⟩ => (win1_1.blk t).view.read (Elt F) (V c main_v0)
    | ⟨2, _⟩ => win1_2.fill (grid1.coords t) (fun _ => Scalar.ofBits .bf16 0#16) ((win1_2.blk t).view.read (Elt F) (G2 V c))
    | ⟨3, _⟩ => win1_3.fill (grid1.coords t) (fun _ => 0#8) ((win1_3.blk t).view.read (Elt F) (G3 V c))
    | ⟨4, _⟩ => gAs (b := 1) ((win1_1.blk t).view.read (Elt F) (V c main_v0))
    | ⟨5, _⟩ => win1_5.fill (grid1.coords t) (fun _ => 0#8) ((win1_5.blk t).view.read (Elt F) (G5 V c))
    | ⟨6, _⟩ => win1_6.fill (grid1.coords t) (fun _ => Scalar.ofBits .f32 0#32) ((win1_6.blk t).view.read (Elt F) (G6 V c))
  Φ _ := Pipeline.scopedRest (Ix := Unit) (Name := ℕ) (U := UR sig nD τ) (Lvl := ℕ) (Val := Elt F) spec1 c
  q _ := fullShare
  owed _ := 0

theorem before_0 (c : Dev nD) (t : Fin cfg1.N) (d) : (dat V c).before (0 : Fin 7) t d
    = win1_0.fill (grid1.coords t) d ((win1_0.blk t).view.read (Elt F) (V c main_arg0)) := by
  unfold Dat.before; rw [if_pos (fetch1_0 t)]; rfl

theorem before_1 (c : Dev nD) (t : Fin cfg1.N) (d) : (dat V c).before (1 : Fin 7) t d = (win1_1.blk t).view.read (Elt F) (V c main_v0) :=
  (dat V c).before_in_eq_fetched (1 : Fin 7) rfl (fun _ => rfl) (fun _ _ _ => rfl) (fun _ => rfl) t d

theorem body_obligation (c : Dev nD) : BodyObligationLoose (dat V c) (defs₀ (F := F)) Variants.none () Set.univ := fun t => by
  rw [bigSep_W1, bigSep_W1]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 V c t d0, before_1 V c t d1]
  iapply (sound1 (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (V c main_arg0) (V c main_v0) _ _ (isBlk t (V c main_arg0) d0) (read1 t (V c main_v0))
    ((dat V c).before (2 : Fin 7) t d2) ((dat V c).before (3 : Fin 7) t d3) ((dat V c).before (4 : Fin 7) t d4)
    ((dat V c).before (5 : Fin 7) t d5) ((dat V c).before (6 : Fin 7) t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %Y2 %Y3 %Y5 %Y6 %hY ⟨H0, H1, H2, H3, H4, H5, H6⟩
  isplitl [HΦ]; · iexact HΦ
  isplitl [Ho]; · iexact Ho
  isplitl [H0]
  · iexists d0
    have hx : win1_0.cut (grid1.coords t) ((dat V c).after (0 : Fin 7) t) = (win1_0.blk t).view.read (Elt F) (V c main_arg0) :=
      win1_0.cut_fill _ _ _
    change _ ⊢ owns (c : Thread nD τ) (win1_0.stage (cfg1.slots t 0)) fullShare
      (win1_0.fill (grid1.coords t) d0 (win1_0.cut (grid1.coords t) ((dat V c).after (0 : Fin 7) t)))
    rw [hx]; try iexact H0
  isplitl [H1]; · iexact H1
  isplitl [H2]
  · iexists Y2
    have hx : win1_2.cut (grid1.coords t) ((dat V c).after (2 : Fin 7) t) = (win1_2.blk t).view.read (Elt F) (G2 V c) :=
      win1_2.cut_fill _ _ _
    change _ ⊢ owns (c : Thread nD τ) (win1_2.stage (cfg1.slots t 2)) fullShare
      (win1_2.fill (grid1.coords t) Y2 (win1_2.cut (grid1.coords t) ((dat V c).after (2 : Fin 7) t)))
    rw [hx, ← fill2 t (G2 V c) Y2 hY.1]; try iexact H2
  isplitl [H3]
  · iexists Y3
    have hx : win1_3.cut (grid1.coords t) ((dat V c).after (3 : Fin 7) t) = (win1_3.blk t).view.read (Elt F) (G3 V c) :=
      win1_3.cut_fill _ _ _
    change _ ⊢ owns (c : Thread nD τ) (win1_3.stage (cfg1.slots t 3)) fullShare
      (win1_3.fill (grid1.coords t) Y3 (win1_3.cut (grid1.coords t) ((dat V c).after (3 : Fin 7) t)))
    rw [hx, ← fill3 t (G3 V c) Y3 hY.2.1]; try iexact H3
  isplitl [H4]; · iexact H4
  isplitl [H5]
  · iexists Y5
    have hx : win1_5.cut (grid1.coords t) ((dat V c).after (5 : Fin 7) t) = (win1_5.blk t).view.read (Elt F) (G5 V c) :=
      win1_5.cut_fill _ _ _
    change _ ⊢ owns (c : Thread nD τ) (win1_5.stage (cfg1.slots t 5)) fullShare
      (win1_5.fill (grid1.coords t) Y5 (win1_5.cut (grid1.coords t) ((dat V c).after (5 : Fin 7) t)))
    rw [hx, ← fill5 t (G5 V c) Y5 hY.2.2.1]; try iexact H5
  · iexists Y6
    have hx : win1_6.cut (grid1.coords t) ((dat V c).after (6 : Fin 7) t) = (win1_6.blk t).view.read (Elt F) (G6 V c) :=
      win1_6.cut_fill _ _ _
    change _ ⊢ owns (c : Thread nD τ) (win1_6.stage (cfg1.slots t 6)) fullShare
      (win1_6.fill (grid1.coords t) Y6 (win1_6.cut (grid1.coords t) ((dat V c).after (6 : Fin 7) t)))
    rw [hx, ← fill6 t (G6 V c) Y6 hY.2.2.2]; try iexact H6

theorem final2 (c : Dev nD) : (dat V c).arrAt (2 : Fin 7) cfg1.N = G2 V c :=
  (dat V c).arrAt_eq_of_covers (2 : Fin 7) _ (by decide +kernel) fun t hf y => by
    have hx : win1_2.cut (grid1.coords t) ((dat V c).after (2 : Fin 7) t) = (win1_2.blk t).view.read (Elt F) (G2 V c) :=
      win1_2.cut_fill _ _ _
    exact congrFun hx y
theorem final3 (c : Dev nD) : (dat V c).arrAt (3 : Fin 7) cfg1.N = G3 V c :=
  (dat V c).arrAt_eq_of_covers (3 : Fin 7) _ (by decide +kernel) fun t hf y => by
    have hx : win1_3.cut (grid1.coords t) ((dat V c).after (3 : Fin 7) t) = (win1_3.blk t).view.read (Elt F) (G3 V c) :=
      win1_3.cut_fill _ _ _
    exact congrFun hx y
theorem final5 (c : Dev nD) : (dat V c).arrAt (5 : Fin 7) cfg1.N = G5 V c :=
  (dat V c).arrAt_eq_of_covers (5 : Fin 7) _ (by decide +kernel) fun t hf y => by
    have hx : win1_5.cut (grid1.coords t) ((dat V c).after (5 : Fin 7) t) = (win1_5.blk t).view.read (Elt F) (G5 V c) :=
      win1_5.cut_fill _ _ _
    exact congrFun hx y
theorem final6 (c : Dev nD) : (dat V c).arrAt (6 : Fin 7) cfg1.N = G6 V c :=
  (dat V c).arrAt_eq_of_covers (6 : Fin 7) _ (by decide +kernel) fun t hf y => by
    have hx : win1_6.cut (grid1.coords t) ((dat V c).after (6 : Fin 7) t) = (win1_6.blk t).view.read (Elt F) (G6 V c) :=
      win1_6.cut_fill _ _ _
    exact congrFun hx y
theorem final4 (c : Dev nD) : (dat V c).arrAt (4 : Fin 7) cfg1.N = G4 V c := by
  refine (dat V c).arrAt_eq_of_covers (4 : Fin 7) _ (by decide +kernel) fun t hf y => ?_
  refine congrArg (fun z => aScale ((V c main_v0 : S3x16x128.Idx → F .f32) z)) ?_
  have e : ∀ a, ((win1_1.blk t).view.emb y a).val = ((win1_4.blk t).view.emb y a).val := fun a => by
    match a with
    | ⟨0, _⟩ => blk_simp [ix1 t, ix4 t]
    | ⟨1, _⟩ => blk_simp [ix1 t, ix4 t]
    | ⟨2, _⟩ => blk_simp [ix1 t, ix4 t]
  exact funext fun a => Fin.ext (e a)

end R1

end Cert.Codec
-- ==== Proof.Region2.lean ====
/-
  THE FIRST PASS OF THE SECOND CALL, over the whole grid: its proof data, the body's obligation at each point, and the
  array it leaves — the maximum of the absolute values of each column's anchors.
-/
module

public import proofs.«01_k».proof.Proof.Region1

@[expose] public section

set_option maxRecDepth 16384

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

namespace R2

theorem co0 : ∀ t : Fin grid2.N, (grid2.coords t 0).val = t.val / 21 := by decide +kernel
theorem co1 : ∀ t : Fin grid2.N, (grid2.coords t 1).val = t.val % 21 := by decide +kernel
theorem ix0 : ∀ t : Fin grid2.N, win2_0.index t = ![(grid2.coords t 0).val, (grid2.coords t 1).val, 0, 0] := by decide +kernel
theorem ix1 : ∀ t : Fin grid2.N, win2_1.index t = ![(grid2.coords t 0).val, 0, 0] := by decide +kernel
theorem xs0 : ∀ t : Fin grid2.N, ∀ a, win2_0.xsize (grid2.coords t) a = (![1, nTok (grid2.coords t), 16, 128] : Fin 4 → ℕ) a := by decide +kernel

theorem isBlk (t : Fin grid2.N) (A : S3x8192x16x128.Idx → F .bf16) (d : S1x400x16x128.Idx → F .bf16) :
    IsBlk (grid2.coords t) A (win2_0.fill (grid2.coords t) d ((win2_0.blk t).view.read (Elt F) A)) := by
  intro y hy
  have hm : win2_0.moved (grid2.coords t) y = true := (win2_0.moved_iff _ _).mpr fun a => by
    rw [xs0 t a]
    match a with
    | ⟨0, _⟩ => exact (y 0).isLt
    | ⟨1, _⟩ => exact hy
    | ⟨2, _⟩ => exact (y 2).isLt
    | ⟨3, _⟩ => exact (y 3).isLt
  have h0 : (y 0).val < 1 := (y 0).isLt
  unfold Window.fill
  rw [dif_pos hm]
  refine congrArg A (at4_eq _ ?_ ?_ ?_ ?_).symm
  · blk_simp [ix0 t]; dsimp only; omega
  · blk_simp [ix0 t]; dsimp only; omega
  · blk_simp [ix0 t]
  · blk_simp [ix0 t]

variable (V : (c : Dev nD) → Valuation τ sig (Elt F))

/-- The proof data: the input's block as fetched; the running maxima; nothing owed. -/
def dat (c : Dev nD) : Dat τ (Elt F) Unit ℕ (UR sig nD τ) ℕ cfg2 c where
  A w := V c (Pipeline.arrRef spec2 w)
  after w t := match w with
    | ⟨0, _⟩ => win2_0.fill (grid2.coords t) (fun _ => Scalar.ofBits .bf16 0#16) ((win2_0.blk t).view.read (Elt F) (V c main_arg1))
    | ⟨1, _⟩ => acc (V c main_arg1) (grid2.coords t 0).val (upTo (grid2.coords t))
  Φ _ := Pipeline.scopedRest (Ix := Unit) (Name := ℕ) (U := UR sig nD τ) (Lvl := ℕ) (Val := Elt F) spec2 c
  q _ := fullShare
  owed _ := 0

theorem before_0 (c : Dev nD) (t : Fin cfg2.N) (d) : (dat V c).before (0 : Fin 2) t d
    = win2_0.fill (grid2.coords t) d ((win2_0.blk t).view.read (Elt F) (V c main_arg1)) := by
  unfold Dat.before; rw [if_pos (fetch2_0 t)]; rfl

theorem before_1 (c : Dev nD) (t : Fin cfg2.N) (h : (grid2.coords t 1).val ≠ 0) (d) : (dat V c).before (1 : Fin 2) t d
    = acc (V c main_arg1) (grid2.coords t 0).val (40 * (grid2.coords t 1).val) := by
  rw [co1] at h
  have ht : t.val ≠ 0 := by intro e; rw [e] at h; exact h rfl
  have hlt : t.val - 1 < cfg2.N := Nat.lt_of_le_of_lt (Nat.sub_le _ _) t.isLt
  have hfl : (cfg2.win (1 : Fin 2)).flush ⟨t.val - 1, hlt⟩ = false := by
    rw [Bool.eq_false_iff]; intro e; have := (flush2_1 _).mp e; simp only at this; omega
  have hc : (grid2.coords t 1).val = (grid2.coords ⟨t.val - 1, hlt⟩ 1).val + 1 := by
    rw [co1, co1]; simp only; omega
  have hb : (grid2.coords t 0).val = (grid2.coords ⟨t.val - 1, hlt⟩ 0).val := by
    rw [co0, co0]; simp only; omega
  rw [(dat V c).before_out_kept (1 : Fin 2) rfl t ht hfl (fun _ => rfl) (fun _ _ => rfl) d, ← upTo_before _ _ hc, hb]
  rfl

theorem body_obligation (c : Dev nD) : BodyObligationLoose (dat V c) (defs₀ (F := F)) Variants.none () Set.univ := fun t => by
  rw [bigSep_W2, bigSep_W2]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩⟩
  rw [before_0 V c t d0]
  iapply (sound0 (F := F) c Set.univ (grid2.coords t) (win2_0.stage (cfg2.slots t 0)) (hstage2_0 ((cfg2.slots t 0).cast nbuf2_0))
    (win2_1.stage (cfg2.slots t 1)) (hstage2_1 ((cfg2.slots t 1).cast nbuf2_1)) (V c main_arg1) _ ((dat V c).before (1 : Fin 2) t d1)
    (isBlk t (V c main_arg1) d0) (fun h => before_1 V c t h d1) _)
  isplitl [H0]; · iexact H0
  isplitl [H1]; · iexact H1
  iintro ⟨H0, H1⟩
  isplitl [HΦ]; · iexact HΦ
  isplitl [Ho]; · iexact Ho
  isplitl [H0]
  · iexists d0
    have hx : win2_0.cut (grid2.coords t) ((dat V c).after (0 : Fin 2) t) = (win2_0.blk t).view.read (Elt F) (V c main_arg1) :=
      win2_0.cut_fill _ _ _
    change _ ⊢ owns (c : Thread nD τ) (win2_0.stage (cfg2.slots t 0)) fullShare
      (win2_0.fill (grid2.coords t) d0 (win2_0.cut (grid2.coords t) ((dat V c).after (0 : Fin 2) t)))
    rw [hx]; try iexact H0
  · iexact H1

theorem final (c : Dev nD) : (dat V c).arrAt (1 : Fin 2) cfg2.N = amaxAll (V c main_arg1) := by
  refine (dat V c).arrAt_eq_of_covers (1 : Fin 2) _ (by decide +kernel) fun t hf y => ?_
  have h20 := (flush2_1 t).mp hf
  rw [← co1 t] at h20
  have h0 : (y 0).val < 1 := (y 0).isLt
  show acc (V c main_arg1) (grid2.coords t 0).val (upTo (grid2.coords t)) ((cfg2.win (1 : Fin 2)).xinj (grid2.coords t) y) = _
  unfold acc amaxAll
  rw [upTo_last _ h20]
  refine congrArg (fun x => amaxUpTo x 820) ?_
  have e0 : ((win2_1.blk t).view.emb y 0).val = (grid2.coords t 0).val := by blk_simp [ix1 t]
  have e1 : ((win2_1.blk t).view.emb y 1).val = (y 1).val := by blk_simp [ix1 t]
  have e2 : ((win2_1.blk t).view.emb y 2).val = (y 2).val := by blk_simp [ix1 t]
  show anch _ _ (y 1).val (y 2).val = anch _ ((win2_1.blk t).view.emb y 0).val ((win2_1.blk t).view.emb y 1).val ((win2_1.blk t).view.emb y 2).val
  rw [e0, e1, e2]

end R2

end Cert.Codec
-- ==== Proof.Region3.lean ====
/-
  THE SECOND PASS OF THE SECOND CALL, over the whole grid: its proof data, the body's obligation at each point, and the
  five arrays it leaves.
-/
module

public import proofs.«01_k».proof.Proof.Region2

@[expose] public section

set_option maxRecDepth 16384

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

namespace R3

theorem co0 : ∀ t : Fin grid3.N, (grid3.coords t 0).val = t.val / 21 := by decide +kernel
theorem co1 : ∀ t : Fin grid3.N, (grid3.coords t 1).val = t.val % 21 := by decide +kernel
theorem ix0 : ∀ t : Fin grid3.N, win3_0.index t = ![(grid3.coords t 0).val, (grid3.coords t 1).val, 0, 0] := by decide +kernel
theorem ix1 : ∀ t : Fin grid3.N, win3_1.index t = ![(grid3.coords t 0).val, 0, 0] := by decide +kernel
theorem ix2 : ∀ t : Fin grid3.N, win3_2.index t = ![(grid3.coords t 0).val, (grid3.coords t 1).val, 0, 0] := by decide +kernel
theorem ix3 : ∀ t : Fin grid3.N, win3_3.index t = ![(grid3.coords t 0).val, (grid3.coords t 1).val, 0, 0] := by decide +kernel
theorem ix4 : ∀ t : Fin grid3.N, win3_4.index t = ![(grid3.coords t 0).val, 0, 0] := by decide +kernel
theorem ix5 : ∀ t : Fin grid3.N, win3_5.index t = ![(grid3.coords t 0).val, (grid3.coords t 1).val, 0, 0] := by decide +kernel
theorem ix6 : ∀ t : Fin grid3.N, win3_6.index t = ![(grid3.coords t 0).val, (grid3.coords t 1).val, 0, 0] := by decide +kernel
theorem xs0 : ∀ t : Fin grid3.N, ∀ a, win3_0.xsize (grid3.coords t) a = (![1, nTok (grid3.coords t), 16, 128] : Fin 4 → ℕ) a := by decide +kernel
theorem xs2 : ∀ t : Fin grid3.N, 400 * (grid3.coords t 1).val + win3_2.xsize (grid3.coords t) (1 : Fin 4) ≤ 8192 := by decide +kernel
theorem xs3 : ∀ t : Fin grid3.N, 40 * (grid3.coords t 1).val + win3_3.xsize (grid3.coords t) (1 : Fin 4) ≤ 820 := by decide +kernel
theorem xs5 : ∀ t : Fin grid3.N, 200 * (grid3.coords t 1).val + win3_5.xsize (grid3.coords t) (1 : Fin 4) ≤ 4096 := by decide +kernel
theorem xs6 : ∀ t : Fin grid3.N, 40 * (grid3.coords t 1).val + win3_6.xsize (grid3.coords t) (1 : Fin 4) ≤ 820 := by decide +kernel

theorem isBlk (t : Fin grid3.N) (A : S3x8192x16x128.Idx → F .bf16) (d : S1x400x16x128.Idx → F .bf16) :
    IsBlk (grid3.coords t) A (win3_0.fill (grid3.coords t) d ((win3_0.blk t).view.read (Elt F) A)) := by
  intro y hy
  have hm : win3_0.moved (grid3.coords t) y = true := (win3_0.moved_iff _ _).mpr fun a => by
    rw [xs0 t a]
    match a with
    | ⟨0, _⟩ => exact (y 0).isLt
    | ⟨1, _⟩ => exact hy
    | ⟨2, _⟩ => exact (y 2).isLt
    | ⟨3, _⟩ => exact (y 3).isLt
  have h0 : (y 0).val < 1 := (y 0).isLt
  unfold Window.fill
  rw [dif_pos hm]
  refine congrArg A (at4_eq _ ?_ ?_ ?_ ?_).symm
  · blk_simp [ix0 t]; dsimp only; omega
  · blk_simp [ix0 t]; dsimp only; omega
  · blk_simp [ix0 t]
  · blk_simp [ix0 t]

theorem read1 (t : Fin grid3.N) (M : S3x16x128.Idx → F .f32) (y : S1x16x128.Idx) :
    (win3_1.blk t).view.read (Elt F) M y = M (at3 (grid3.coords t 0).val (y 1).val (y 2).val) := by
  have h0 : (y 0).val < 1 := (y 0).isLt
  refine congrArg M (at3_eq _ ?_ ?_ ?_).symm
  · blk_simp [ix1 t]
  · blk_simp [ix1 t]
  · blk_simp [ix1 t]

/-- A result block that holds the array's results on the rows the array has is the array's block, filled out. -/
theorem fill2 (t : Fin grid3.N) (G : S3x8192x16x128.Idx → F .bf16) (Y : S1x400x16x128.Idx → F .bf16)
    (h : ∀ y : S1x400x16x128.Idx, 400 * (grid3.coords t 1).val + (y 1).val < 8192 →
      Y y = G (at4 (grid3.coords t 0).val (400 * (grid3.coords t 1).val + (y 1).val) (y 2).val (y 3).val)) :
    Y = win3_2.fill (grid3.coords t) Y ((win3_2.blk t).view.read (Elt F) G) := by
  refine (win3_2.fill_cut (grid3.coords t) Y).symm.trans (congrArg (win3_2.fill (grid3.coords t) Y) (funext fun j => ?_))
  have h1 : (j 1).val < win3_2.xsize (grid3.coords t) (1 : Fin 4) := (j 1).isLt
  have h0 : (j 0).val < 1 := Nat.lt_of_lt_of_le (j 0).isLt (win3_2.xsize_le _ (0 : Fin 4))
  have h2 := xs2 t
  refine (h _ (show 400 * (grid3.coords t 1).val + (j 1).val < 8192 by omega)).trans (congrArg G (at4_eq _ ?_ ?_ ?_ ?_))
  · blk_simp [ix2 t]; omega
  · blk_simp [ix2 t]; rw [Nat.mul_comm]
  · blk_simp [ix2 t]
  · blk_simp [ix2 t]

theorem fill3 (t : Fin grid3.N) (G : S3x820x16x128.Idx → BitVec 8) (Y : S1x40x16x128.Idx → BitVec 8)
    (h : ∀ y : S1x40x16x128.Idx, 40 * (grid3.coords t 1).val + (y 1).val < 820 →
      Y y = G (at4 (grid3.coords t 0).val (40 * (grid3.coords t 1).val + (y 1).val) (y 2).val (y 3).val)) :
    Y = win3_3.fill (grid3.coords t) Y ((win3_3.blk t).view.read (Elt F) G) := by
  refine (win3_3.fill_cut (grid3.coords t) Y).symm.trans (congrArg (win3_3.fill (grid3.coords t) Y) (funext fun j => ?_))
  have h1 : (j 1).val < win3_3.xsize (grid3.coords t) (1 : Fin 4) := (j 1).isLt
  have h0 : (j 0).val < 1 := Nat.lt_of_lt_of_le (j 0).isLt (win3_3.xsize_le _ (0 : Fin 4))
  have h2 := xs3 t
  refine (h _ (show 40 * (grid3.coords t 1).val + (j 1).val < 820 by omega)).trans (congrArg G (at4_eq _ ?_ ?_ ?_ ?_))
  · blk_simp [ix3 t]; omega
  · blk_simp [ix3 t]; rw [Nat.mul_comm]
  · blk_simp [ix3 t]
  · blk_simp [ix3 t]

theorem fill5 (t : Fin grid3.N) (G : S3x4096x16x128.Idx → BitVec 8) (Y : S1x200x16x128.Idx → BitVec 8)
    (h : ∀ y : S1x200x16x128.Idx, 200 * (grid3.coords t 1).val + (y 1).val < 4096 →
      Y y = G (at4 (grid3.coords t 0).val (200 * (grid3.coords t 1).val + (y 1).val) (y 2).val (y 3).val)) :
    Y = win3_5.fill (grid3.coords t) Y ((win3_5.blk t).view.read (Elt F) G) := by
  refine (win3_5.fill_cut (grid3.coords t) Y).symm.trans (congrArg (win3_5.fill (grid3.coords t) Y) (funext fun j => ?_))
  have h1 : (j 1).val < win3_5.xsize (grid3.coords t) (1 : Fin 4) := (j 1).isLt
  have h0 : (j 0).val < 1 := Nat.lt_of_lt_of_le (j 0).isLt (win3_5.xsize_le _ (0 : Fin 4))
  have h2 := xs5 t
  refine (h _ (show 200 * (grid3.coords t 1).val + (j 1).val < 4096 by omega)).trans (congrArg G (at4_eq _ ?_ ?_ ?_ ?_))
  · blk_simp [ix5 t]; omega
  · blk_simp [ix5 t]; rw [Nat.mul_comm]
  · blk_simp [ix5 t]
  · blk_simp [ix5 t]

theorem fill6 (t : Fin grid3.N) (G : S3x820x16x128.Idx → F .f32) (Y : S1x40x16x128.Idx → F .f32)
    (h : ∀ y : S1x40x16x128.Idx, 40 * (grid3.coords t 1).val + (y 1).val < 820 →
      Y y = G (at4 (grid3.coords t 0).val (40 * (grid3.coords t 1).val + (y 1).val) (y 2).val (y 3).val)) :
    Y = win3_6.fill (grid3.coords t) Y ((win3_6.blk t).view.read (Elt F) G) := by
  refine (win3_6.fill_cut (grid3.coords t) Y).symm.trans (congrArg (win3_6.fill (grid3.coords t) Y) (funext fun j => ?_))
  have h1 : (j 1).val < win3_6.xsize (grid3.coords t) (1 : Fin 4) := (j 1).isLt
  have h0 : (j 0).val < 1 := Nat.lt_of_lt_of_le (j 0).isLt (win3_6.xsize_le _ (0 : Fin 4))
  have h2 := xs6 t
  refine (h _ (show 40 * (grid3.coords t 1).val + (j 1).val < 820 by omega)).trans (congrArg G (at4_eq _ ?_ ?_ ?_ ?_))
  · blk_simp [ix6 t]; omega
  · blk_simp [ix6 t]; rw [Nat.mul_comm]
  · blk_simp [ix6 t]
  · blk_simp [ix6 t]

variable (V : (c : Dev nD) → Valuation τ sig (Elt F))

/-- The five arrays the pass leaves. -/
abbrev G2 (c : Dev nD) : S3x8192x16x128.Idx → F .bf16 := gHat 8192 (V c main_arg1 : S3x8192x16x128.Idx → F .bf16) (V c main_v2 : S3x16x128.Idx → F .f32)
abbrev G3 (c : Dev nD) : S3x820x16x128.Idx → BitVec 8 := gAc 8192 (V c main_arg1 : S3x8192x16x128.Idx → F .bf16) (V c main_v2 : S3x16x128.Idx → F .f32)
abbrev G4 (c : Dev nD) : S3x16x128.Idx → F .f32 := gAs (V c main_v2 : S3x16x128.Idx → F .f32)
abbrev G5 (c : Dev nD) : S3x4096x16x128.Idx → BitVec 8 := gDc 8192 (V c main_arg1 : S3x8192x16x128.Idx → F .bf16) (V c main_v2 : S3x16x128.Idx → F .f32)
abbrev G6 (c : Dev nD) : S3x820x16x128.Idx → F .f32 := gDs 8192 (V c main_arg1 : S3x8192x16x128.Idx → F .bf16) (V c main_v2 : S3x16x128.Idx → F .f32)

/-- The proof data: the inputs' blocks as fetched; each result's block of the array it leaves; nothing owed. -/
def dat (c : Dev nD) : Dat τ (Elt F) Unit ℕ (UR sig nD τ) ℕ cfg3 c where
  A w := V c (Pipeline.arrRef spec3 w)
  after w t := match w with
    | ⟨0, _⟩ => win3_0.fill (grid3.coords t) (fun _ => Scalar.ofBits .bf16 0#16) ((win3_0.blk t).view.read (Elt F) (V c main_arg1))
    | ⟨1, _⟩ => (win3_1.blk t).view.read (Elt F) (V c main_v2)
    | ⟨2, _⟩ => win3_2.fill (grid3.coords t) (fun _ => Scalar.ofBits .bf16 0#16) ((win3_2.blk t).view.read (Elt F) (G2 V c))
    | ⟨3, _⟩ => win3_3.fill (grid3.coords t) (fun _ => 0#8) ((win3_3.blk t).view.read (Elt F) (G3 V c))
    | ⟨4, _⟩ => gAs (b := 1) ((win3_1.blk t).view.read (Elt F) (V c main_v2))
    | ⟨5, _⟩ => win3_5.fill (grid3.coords t) (fun _ => 0#8) ((win3_5.blk t).view.read (Elt F) (G5 V c))
    | ⟨6, _⟩ => win3_6.fill (grid3.coords t) (fun _ => Scalar.ofBits .f32 0#32) ((win3_6.blk t).view.read (Elt F) (G6 V c))
  Φ _ := Pipeline.scopedRest (Ix := Unit) (Name := ℕ) (U := UR sig nD τ) (Lvl := ℕ) (Val := Elt F) spec3 c
  q _ := fullShare
  owed _ := 0

theorem before_0 (c : Dev nD) (t : Fin cfg3.N) (d) : (dat V c).before (0 : Fin 7) t d
    = win3_0.fill (grid3.coords t) d ((win3_0.blk t).view.read (Elt F) (V c main_arg1)) := by
  unfold Dat.before; rw [if_pos (fetch3_0 t)]; rfl

theorem before_1 (c : Dev nD) (t : Fin cfg3.N) (d) : (dat V c).before (1 : Fin 7) t d = (win3_1.blk t).view.read (Elt F) (V c main_v2) :=
  (dat V c).before_in_eq_fetched (1 : Fin 7) rfl (fun _ => rfl) (fun _ _ _ => rfl) (fun _ => rfl) t d

theorem body_obligation (c : Dev nD) : BodyObligationLoose (dat V c) (defs₀ (F := F)) Variants.none () Set.univ := fun t => by
  rw [bigSep_W3, bigSep_W3]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 V c t d0, before_1 V c t d1]
  iapply (sound1 (F := F) c Set.univ (grid3.coords t) (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))
    (win3_3.stage (cfg3.slots t 3)) (hstage3_3 ((cfg3.slots t 3).cast nbuf3_3))
    (win3_4.stage (cfg3.slots t 4)) (hstage3_4 ((cfg3.slots t 4).cast nbuf3_4))
    (win3_5.stage (cfg3.slots t 5)) (hstage3_5 ((cfg3.slots t 5).cast nbuf3_5))
    (win3_6.stage (cfg3.slots t 6)) (hstage3_6 ((cfg3.slots t 6).cast nbuf3_6))
    (V c main_arg1) (V c main_v2) _ _ (isBlk t (V c main_arg1) d0) (read1 t (V c main_v2))
    ((dat V c).before (2 : Fin 7) t d2) ((dat V c).before (3 : Fin 7) t d3) ((dat V c).before (4 : Fin 7) t d4)
    ((dat V c).before (5 : Fin 7) t d5) ((dat V c).before (6 : Fin 7) t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro %Y2 %Y3 %Y5 %Y6 %hY ⟨H0, H1, H2, H3, H4, H5, H6⟩
  isplitl [HΦ]; · iexact HΦ
  isplitl [Ho]; · iexact Ho
  isplitl [H0]
  · iexists d0
    have hx : win3_0.cut (grid3.coords t) ((dat V c).after (0 : Fin 7) t) = (win3_0.blk t).view.read (Elt F) (V c main_arg1) :=
      win3_0.cut_fill _ _ _
    change _ ⊢ owns (c : Thread nD τ) (win3_0.stage (cfg3.slots t 0)) fullShare
      (win3_0.fill (grid3.coords t) d0 (win3_0.cut (grid3.coords t) ((dat V c).after (0 : Fin 7) t)))
    rw [hx]; try iexact H0
  isplitl [H1]; · iexact H1
  isplitl [H2]
  · iexists Y2
    have hx : win3_2.cut (grid3.coords t) ((dat V c).after (2 : Fin 7) t) = (win3_2.blk t).view.read (Elt F) (G2 V c) :=
      win3_2.cut_fill _ _ _
    change _ ⊢ owns (c : Thread nD τ) (win3_2.stage (cfg3.slots t 2)) fullShare
      (win3_2.fill (grid3.coords t) Y2 (win3_2.cut (grid3.coords t) ((dat V c).after (2 : Fin 7) t)))
    rw [hx, ← fill2 t (G2 V c) Y2 hY.1]; try iexact H2
  isplitl [H3]
  · iexists Y3
    have hx : win3_3.cut (grid3.coords t) ((dat V c).after (3 : Fin 7) t) = (win3_3.blk t).view.read (Elt F) (G3 V c) :=
      win3_3.cut_fill _ _ _
    change _ ⊢ owns (c : Thread nD τ) (win3_3.stage (cfg3.slots t 3)) fullShare
      (win3_3.fill (grid3.coords t) Y3 (win3_3.cut (grid3.coords t) ((dat V c).after (3 : Fin 7) t)))
    rw [hx, ← fill3 t (G3 V c) Y3 hY.2.1]; try iexact H3
  isplitl [H4]; · iexact H4
  isplitl [H5]
  · iexists Y5
    have hx : win3_5.cut (grid3.coords t) ((dat V c).after (5 : Fin 7) t) = (win3_5.blk t).view.read (Elt F) (G5 V c) :=
      win3_5.cut_fill _ _ _
    change _ ⊢ owns (c : Thread nD τ) (win3_5.stage (cfg3.slots t 5)) fullShare
      (win3_5.fill (grid3.coords t) Y5 (win3_5.cut (grid3.coords t) ((dat V c).after (5 : Fin 7) t)))
    rw [hx, ← fill5 t (G5 V c) Y5 hY.2.2.1]; try iexact H5
  · iexists Y6
    have hx : win3_6.cut (grid3.coords t) ((dat V c).after (6 : Fin 7) t) = (win3_6.blk t).view.read (Elt F) (G6 V c) :=
      win3_6.cut_fill _ _ _
    change _ ⊢ owns (c : Thread nD τ) (win3_6.stage (cfg3.slots t 6)) fullShare
      (win3_6.fill (grid3.coords t) Y6 (win3_6.cut (grid3.coords t) ((dat V c).after (6 : Fin 7) t)))
    rw [hx, ← fill6 t (G6 V c) Y6 hY.2.2.2]; try iexact H6

theorem final2 (c : Dev nD) : (dat V c).arrAt (2 : Fin 7) cfg3.N = G2 V c :=
  (dat V c).arrAt_eq_of_covers (2 : Fin 7) _ (by decide +kernel) fun t hf y => by
    have hx : win3_2.cut (grid3.coords t) ((dat V c).after (2 : Fin 7) t) = (win3_2.blk t).view.read (Elt F) (G2 V c) :=
      win3_2.cut_fill _ _ _
    exact congrFun hx y
theorem final3 (c : Dev nD) : (dat V c).arrAt (3 : Fin 7) cfg3.N = G3 V c :=
  (dat V c).arrAt_eq_of_covers (3 : Fin 7) _ (by decide +kernel) fun t hf y => by
    have hx : win3_3.cut (grid3.coords t) ((dat V c).after (3 : Fin 7) t) = (win3_3.blk t).view.read (Elt F) (G3 V c) :=
      win3_3.cut_fill _ _ _
    exact congrFun hx y
theorem final5 (c : Dev nD) : (dat V c).arrAt (5 : Fin 7) cfg3.N = G5 V c :=
  (dat V c).arrAt_eq_of_covers (5 : Fin 7) _ (by decide +kernel) fun t hf y => by
    have hx : win3_5.cut (grid3.coords t) ((dat V c).after (5 : Fin 7) t) = (win3_5.blk t).view.read (Elt F) (G5 V c) :=
      win3_5.cut_fill _ _ _
    exact congrFun hx y
theorem final6 (c : Dev nD) : (dat V c).arrAt (6 : Fin 7) cfg3.N = G6 V c :=
  (dat V c).arrAt_eq_of_covers (6 : Fin 7) _ (by decide +kernel) fun t hf y => by
    have hx : win3_6.cut (grid3.coords t) ((dat V c).after (6 : Fin 7) t) = (win3_6.blk t).view.read (Elt F) (G6 V c) :=
      win3_6.cut_fill _ _ _
    exact congrFun hx y
theorem final4 (c : Dev nD) : (dat V c).arrAt (4 : Fin 7) cfg3.N = G4 V c := by
  refine (dat V c).arrAt_eq_of_covers (4 : Fin 7) _ (by decide +kernel) fun t hf y => ?_
  refine congrArg (fun z => aScale ((V c main_v2 : S3x16x128.Idx → F .f32) z)) ?_
  have e : ∀ a, ((win3_1.blk t).view.emb y a).val = ((win3_4.blk t).view.emb y a).val := fun a => by
    match a with
    | ⟨0, _⟩ => blk_simp [ix1 t, ix4 t]
    | ⟨1, _⟩ => blk_simp [ix1 t, ix4 t]
    | ⟨2, _⟩ => blk_simp [ix1 t, ix4 t]
  exact funext fun a => Fin.ext (e a)

end R3

end Cert.Codec
-- ==== Proof.Regs.lean ====
/-
  THE FOUR REGIONS as records over the thread state "every buffer held at a valuation", and THE RUN: every execution ends
  with the ten results at their closed forms, the arguments as they were and every semaphore at zero.
-/
module

public import proofs.«01_k».proof.Proof.Region3

@[expose] public section

set_option maxRecDepth 16384

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg RegionSeg)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides along beside the buffers: the core's dues, none. -/
abbrev Rest (c : Dev nD) : sProp 𝕄 := iprop(∃ W, owes (c : Thread nD τ) (0 : CellTallies nD τ sig Unit) W)

set_option backward.isDefEq.respectTransparency.types false in
/-- A region entered from any valuation `V` and left at `Vp`: its arrays split out of the buffers held, and put back. -/
def mkReg (pdats : (p : Fin 4) → (c : Dev nD) → Dat τ (Elt F) Unit ℕ (UR sig nD τ) ℕ (cfgs p) c) (p : Fin 4)
    (hl : Pipeline.LaunchFacts (nD := nD) (τ := τ) cfgs p) (V Vp : (c : Dev nD) → Valuation τ sig (Elt F))
    (hb : ∀ c, BodyObligationLoose (pdats p c) (defs₀ (F := F)) Variants.none () Set.univ)
    (hΦ : ∀ c t, (pdats p c).Φ t = Pipeline.scopedRest (Ix := Unit) (Name := ℕ) (U := UR sig nD τ) (Lvl := ℕ) (Val := Elt F) (pcfgs (F := F) p).spec c)
    (hq : ∀ c w, (pdats p c).q w = fullShare) (howed : ∀ c t, (pdats p c).owed t = 0) (hr : ∀ c t, (pdats p c).recorded t = Set.univ)
    (hA : ∀ c w, (pdats p c).A w = V c (Pipeline.arrRef (pcfgs (F := F) p).spec w))
    (hF : ∀ c w, (pdats p c).arrAt w (cfgs p).N = Vp c (Pipeline.arrRef (pcfgs (F := F) p).spec w))
    (hne : ∀ c (b : Ref sig .tc), b ∉ Finset.univ.image (Pipeline.arrRef (pcfgs (F := F) p).spec) → Vp c b = V c b) :
    RegionSeg (pcfgs (F := F)) adm pdats () defs₀ Variants.none L lv p where
  win := hl.win.to₀
  block_pos := hl.block_pos
  stage_whole := hl.stage_whole
  K := PEmpty
  osem k := k.elim
  ho := Pipeline.OwnSemFacts.none _
  hbody c := hb c
  hwaits := Pipeline.hwaits_of_owed_zero _ _ _ _ L lv p howed
  pre c := iprop(StableHlo.held (c : Thread nD τ) (Pipeline.ucRefs τ sig) (V c) ∗ Rest (F := F) c)
  post c := iprop(StableHlo.held (c : Thread nD τ) (Pipeline.ucRefs τ sig) (Vp c) ∗ Rest (F := F) c)
  X _ := BI.emp
  Y _ := BI.emp
  Z c := Pipeline.unscopedRest (Ix := Unit) (Name := ℕ) (U := UR sig nD τ) (Lvl := ℕ) (pcfgs (F := F) p).spec c (fun b => V c b)
  hentry c := by
    rw [Pipeline.ownSems0_none, ← Pipeline.unscopedBufs_held (Ix := Unit) (Name := ℕ) (U := UR sig nD τ) (Lvl := ℕ) c (V c)]
    have hsplit := Pipeline.arrays_of_unscopedBufs (p := p) (pcfgs (F := F)) adm pdats hl.win hl.arr_whole c
      ((pdats p c).share_full (hq c)) (fun b => V c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hr]; trivial)
      rw [howed]
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ) hl.win hl.arr_whole c
      pdats ((pdats p c).share_full (hq c)) (fun b => V c b) (fun b => Vp c b) ((pdats p c).arrAt · (cfgs p).N) (hF c) (hne c)
    rw [← Pipeline.unscopedBufs_held (Ix := Unit) (Name := ℕ) (U := UR sig nD τ) (Lvl := ℕ) c (Vp c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W
    rw [howed]
    iexact HO

variable (m : (ℓ : Loc nD τ sig) → Buf (Elt F) ℓ)

/-- The two arguments, and what each buffer holds at the end. -/
abbrev arg0 (c : Dev nD) : S3x8192x16x128.Idx → F .bf16 := V0 m c main_arg0
abbrev arg1 (c : Dev nD) : S3x8192x16x128.Idx → F .bf16 := V0 m c main_arg1

def ends (c : Dev nD) : Valuation τ sig (Elt F) :=
  Function.update (Function.update (Function.update (Function.update (Function.update (Function.update
    (Function.update (Function.update (Function.update (Function.update (Function.update (Function.update (V0 m c)
      main_v0 (amaxAll (arg0 m c)))
      main_v1_0 (gHat (q := 8192) 8192 (arg0 m c) (amaxAll (arg0 m c))))
      main_v1_1 (gAc (q := 820) 8192 (arg0 m c) (amaxAll (arg0 m c))))
      main_v1_2 (gAs (amaxAll (arg0 m c))))
      main_v1_3 (gDc (q := 4096) 8192 (arg0 m c) (amaxAll (arg0 m c))))
      main_v1_4 (gDs (q := 820) 8192 (arg0 m c) (amaxAll (arg0 m c))))
      main_v2 (amaxAll (arg1 m c)))
      main_v3_0 (gHat (q := 8192) 8192 (arg1 m c) (amaxAll (arg1 m c))))
      main_v3_1 (gAc (q := 820) 8192 (arg1 m c) (amaxAll (arg1 m c))))
      main_v3_2 (gAs (amaxAll (arg1 m c))))
      main_v3_3 (gDc (q := 4096) 8192 (arg1 m c) (amaxAll (arg1 m c))))
      main_v3_4 (gDs (q := 820) 8192 (arg1 m c) (amaxAll (arg1 m c)))

def outs : Outs (F := F) := fun _ r c => ends m c r

section
variable (c : Dev nD)
theorem ends_v0 : ends m c main_v0 = amaxAll (arg0 m c) := by
  unfold ends
  repeat (first | refine (Function.update_self _ _ _).trans ?_ | refine (Function.update_of_ne (StableHlo.devRef_ne_of_ne (by decide)) _ _).trans ?_)
  rfl
theorem ends_v2 : ends m c main_v2 = amaxAll (arg1 m c) := by
  unfold ends
  repeat (first | refine (Function.update_self _ _ _).trans ?_ | refine (Function.update_of_ne (StableHlo.devRef_ne_of_ne (by decide)) _ _).trans ?_)
  rfl
theorem ends_v1_0 : ends m c main_v1_0 = gHat (q := 8192) 8192 (arg0 m c) (amaxAll (arg0 m c)) := by
  unfold ends
  repeat (first | refine (Function.update_self _ _ _).trans ?_ | refine (Function.update_of_ne (StableHlo.devRef_ne_of_ne (by decide)) _ _).trans ?_)
  rfl
theorem ends_v1_1 : ends m c main_v1_1 = gAc (q := 820) 8192 (arg0 m c) (amaxAll (arg0 m c)) := by
  unfold ends
  repeat (first | refine (Function.update_self _ _ _).trans ?_ | refine (Function.update_of_ne (StableHlo.devRef_ne_of_ne (by decide)) _ _).trans ?_)
  rfl
theorem ends_v1_2 : ends m c main_v1_2 = gAs (amaxAll (arg0 m c)) := by
  unfold ends
  repeat (first | refine (Function.update_self _ _ _).trans ?_ | refine (Function.update_of_ne (StableHlo.devRef_ne_of_ne (by decide)) _ _).trans ?_)
  rfl
theorem ends_v1_3 : ends m c main_v1_3 = gDc (q := 4096) 8192 (arg0 m c) (amaxAll (arg0 m c)) := by
  unfold ends
  repeat (first | refine (Function.update_self _ _ _).trans ?_ | refine (Function.update_of_ne (StableHlo.devRef_ne_of_ne (by decide)) _ _).trans ?_)
  rfl
theorem ends_v1_4 : ends m c main_v1_4 = gDs (q := 820) 8192 (arg0 m c) (amaxAll (arg0 m c)) := by
  unfold ends
  repeat (first | refine (Function.update_self _ _ _).trans ?_ | refine (Function.update_of_ne (StableHlo.devRef_ne_of_ne (by decide)) _ _).trans ?_)
  rfl
theorem ends_v3_0 : ends m c main_v3_0 = gHat (q := 8192) 8192 (arg1 m c) (amaxAll (arg1 m c)) := by
  unfold ends
  repeat (first | refine (Function.update_self _ _ _).trans ?_ | refine (Function.update_of_ne (StableHlo.devRef_ne_of_ne (by decide)) _ _).trans ?_)
  rfl
theorem ends_v3_1 : ends m c main_v3_1 = gAc (q := 820) 8192 (arg1 m c) (amaxAll (arg1 m c)) := by
  unfold ends
  repeat (first | refine (Function.update_self _ _ _).trans ?_ | refine (Function.update_of_ne (StableHlo.devRef_ne_of_ne (by decide)) _ _).trans ?_)
  rfl
theorem ends_v3_2 : ends m c main_v3_2 = gAs (amaxAll (arg1 m c)) := by
  unfold ends
  repeat (first | refine (Function.update_self _ _ _).trans ?_ | refine (Function.update_of_ne (StableHlo.devRef_ne_of_ne (by decide)) _ _).trans ?_)
  rfl
theorem ends_v3_3 : ends m c main_v3_3 = gDc (q := 4096) 8192 (arg1 m c) (amaxAll (arg1 m c)) := by
  unfold ends
  repeat (first | refine (Function.update_self _ _ _).trans ?_ | refine (Function.update_of_ne (StableHlo.devRef_ne_of_ne (by decide)) _ _).trans ?_)
  rfl
theorem ends_v3_4 : ends m c main_v3_4 = gDs (q := 820) 8192 (arg1 m c) (amaxAll (arg1 m c)) := by
  unfold ends
  repeat (first | refine (Function.update_self _ _ _).trans ?_ | refine (Function.update_of_ne (StableHlo.devRef_ne_of_ne (by decide)) _ _).trans ?_)
  rfl

end

/-! ## The valuations between the regions -/

abbrev W0 (c : Dev nD) : Valuation τ sig (Elt F) := V0 m c
abbrev W1 (c : Dev nD) : Valuation τ sig (Elt F) := V1 m (outs m) c
abbrev W2 (c : Dev nD) : Valuation τ sig (Elt F) := V2 m (outs m) c
abbrev W3 (c : Dev nD) : Valuation τ sig (Elt F) := V3 m (outs m) c
abbrev W4 (c : Dev nD) : Valuation τ sig (Elt F) := V4 m (outs m) c

section
variable (c : Dev nD)
theorem W1_v0 : W1 m c main_v0 = amaxAll (arg0 m c) := (Function.update_self _ _ _).trans (ends_v0 m c)
theorem W3_v2 : W3 m c main_v2 = amaxAll (arg1 m c) := (Function.update_self _ _ _).trans (ends_v2 m c)
theorem W2_v1_0 : W2 m c main_v1_0 = ends m c main_v1_0 := by
  repeat (first | refine (Function.update_self _ _ _).trans ?_ | refine (Function.update_of_ne (StableHlo.devRef_ne_of_ne (by decide)) _ _).trans ?_)
  rfl
theorem W2_v1_1 : W2 m c main_v1_1 = ends m c main_v1_1 := by
  repeat (first | refine (Function.update_self _ _ _).trans ?_ | refine (Function.update_of_ne (StableHlo.devRef_ne_of_ne (by decide)) _ _).trans ?_)
  rfl
theorem W2_v1_2 : W2 m c main_v1_2 = ends m c main_v1_2 := by
  repeat (first | refine (Function.update_self _ _ _).trans ?_ | refine (Function.update_of_ne (StableHlo.devRef_ne_of_ne (by decide)) _ _).trans ?_)
  rfl
theorem W2_v1_3 : W2 m c main_v1_3 = ends m c main_v1_3 := by
  repeat (first | refine (Function.update_self _ _ _).trans ?_ | refine (Function.update_of_ne (StableHlo.devRef_ne_of_ne (by decide)) _ _).trans ?_)
  rfl
theorem W2_v1_4 : W2 m c main_v1_4 = ends m c main_v1_4 := by
  repeat (first | refine (Function.update_self _ _ _).trans ?_ | refine (Function.update_of_ne (StableHlo.devRef_ne_of_ne (by decide)) _ _).trans ?_)
  rfl
theorem W4_v3_0 : W4 m c main_v3_0 = ends m c main_v3_0 := by
  repeat (first | refine (Function.update_self _ _ _).trans ?_ | refine (Function.update_of_ne (StableHlo.devRef_ne_of_ne (by decide)) _ _).trans ?_)
  rfl
theorem W4_v3_1 : W4 m c main_v3_1 = ends m c main_v3_1 := by
  repeat (first | refine (Function.update_self _ _ _).trans ?_ | refine (Function.update_of_ne (StableHlo.devRef_ne_of_ne (by decide)) _ _).trans ?_)
  rfl
theorem W4_v3_2 : W4 m c main_v3_2 = ends m c main_v3_2 := by
  repeat (first | refine (Function.update_self _ _ _).trans ?_ | refine (Function.update_of_ne (StableHlo.devRef_ne_of_ne (by decide)) _ _).trans ?_)
  rfl
theorem W4_v3_3 : W4 m c main_v3_3 = ends m c main_v3_3 := by
  repeat (first | refine (Function.update_self _ _ _).trans ?_ | refine (Function.update_of_ne (StableHlo.devRef_ne_of_ne (by decide)) _ _).trans ?_)
  rfl
theorem W4_v3_4 : W4 m c main_v3_4 = ends m c main_v3_4 := by
  repeat (first | refine (Function.update_self _ _ _).trans ?_ | refine (Function.update_of_ne (StableHlo.devRef_ne_of_ne (by decide)) _ _).trans ?_)
  rfl

theorem W1_arg0 : W1 m c main_arg0 = arg0 m c := V1_of m (outs m) c main_arg0 (by decide)
theorem W2_arg1 : W2 m c main_arg1 = arg1 m c :=
  (V2_of m (outs m) c main_arg1 (by decide)).trans (V1_of m (outs m) c main_arg1 (by decide))
theorem W3_arg1 : W3 m c main_arg1 = arg1 m c := (V3_of m (outs m) c main_arg1 (by decide)).trans (W2_arg1 m c)
end

end Cert.Codec
-- ==== Proof.Regs2.lean ====
/-
  THE FOUR REGIONS at the valuations they are entered from.
-/
module

public import proofs.«01_k».proof.Proof.Regs

@[expose] public section

set_option maxRecDepth 16384

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg RegionSeg)

variable {F : FTy → Type} [FloatOps F]

local notation "𝕄" => MT nD τ sig Unit (Elt F) ℕ (UR sig nD τ) ℕ

variable (m : (ℓ : Loc nD τ sig) → Buf (Elt F) ℓ)

/-- Every region's proof data, each at the valuation it is entered from. -/
def pdats : (p : Fin 4) → (c : Dev nD) → Dat τ (Elt F) Unit ℕ (UR sig nD τ) ℕ (cfgs p) c
  | ⟨0, _⟩ => fun c => R0.dat (W0 m) c
  | ⟨1, _⟩ => fun c => R1.dat (W1 m) c
  | ⟨2, _⟩ => fun c => R2.dat (W2 m) c
  | ⟨3, _⟩ => fun c => R3.dat (W3 m) c

theorem notMem_of {S : Finset (Ref sig .tc)} {l : List (Ref sig .tc)} (h : ∀ r ∈ l, r ∈ S) {b : Ref sig .tc} (hb : b ∉ S) : b ∉ l :=
  fun e => hb (h b e)

section
variable (V : (c : Dev nD) → Valuation τ sig (Elt F)) (c : Dev nD)
theorem Φ_0 (t) : (R0.dat V c).Φ t = Pipeline.scopedRest (Ix := Unit) (Name := ℕ) (U := UR sig nD τ) (Lvl := ℕ) (Val := Elt F) spec0 c := rfl
theorem q_0 (w) : (R0.dat V c).q w = fullShare := rfl
theorem owed_0 (t) : (R0.dat V c).owed t = 0 := rfl
theorem rec_0 (t) : (R0.dat V c).recorded t = Set.univ := rfl
theorem A_0 (w) : (R0.dat V c).A w = V c (Pipeline.arrRef spec0 w) := rfl
theorem Φ_1 (t) : (R1.dat V c).Φ t = Pipeline.scopedRest (Ix := Unit) (Name := ℕ) (U := UR sig nD τ) (Lvl := ℕ) (Val := Elt F) spec1 c := rfl
theorem q_1 (w) : (R1.dat V c).q w = fullShare := rfl
theorem owed_1 (t) : (R1.dat V c).owed t = 0 := rfl
theorem rec_1 (t) : (R1.dat V c).recorded t = Set.univ := rfl
theorem A_1 (w) : (R1.dat V c).A w = V c (Pipeline.arrRef spec1 w) := rfl
theorem Φ_2 (t) : (R2.dat V c).Φ t = Pipeline.scopedRest (Ix := Unit) (Name := ℕ) (U := UR sig nD τ) (Lvl := ℕ) (Val := Elt F) spec2 c := rfl
theorem q_2 (w) : (R2.dat V c).q w = fullShare := rfl
theorem owed_2 (t) : (R2.dat V c).owed t = 0 := rfl
theorem rec_2 (t) : (R2.dat V c).recorded t = Set.univ := rfl
theorem A_2 (w) : (R2.dat V c).A w = V c (Pipeline.arrRef spec2 w) := rfl
theorem Φ_3 (t) : (R3.dat V c).Φ t = Pipeline.scopedRest (Ix := Unit) (Name := ℕ) (U := UR sig nD τ) (Lvl := ℕ) (Val := Elt F) spec3 c := rfl
theorem q_3 (w) : (R3.dat V c).q w = fullShare := rfl
theorem owed_3 (t) : (R3.dat V c).owed t = 0 := rfl
theorem rec_3 (t) : (R3.dat V c).recorded t = Set.univ := rfl
theorem A_3 (w) : (R3.dat V c).A w = V c (Pipeline.arrRef spec3 w) := rfl
end

theorem in_0 : ∀ r ∈ ([main_v0] : List (Ref sig .tc)), r ∈ Finset.univ.image (Pipeline.arrRef spec0) := by decide
theorem in_1 : ∀ r ∈ ([main_v1_0, main_v1_1, main_v1_2, main_v1_3, main_v1_4] : List (Ref sig .tc)), r ∈ Finset.univ.image (Pipeline.arrRef spec1) := by decide
theorem in_2 : ∀ r ∈ ([main_v2] : List (Ref sig .tc)), r ∈ Finset.univ.image (Pipeline.arrRef spec2) := by decide
theorem in_3 : ∀ r ∈ ([main_v3_0, main_v3_1, main_v3_2, main_v3_3, main_v3_4] : List (Ref sig .tc)), r ∈ Finset.univ.image (Pipeline.arrRef spec3) := by decide

def reg0 : RegionSeg (pcfgs (F := F)) adm (pdats m) () defs₀ Variants.none L lv 0 :=
  mkReg (pdats m) 0 launch0 (W0 m) (W1 m) (fun c => R0.body_obligation (W0 m) c) (fun c => Φ_0 (W0 m) c) (fun c => q_0 (W0 m) c)
    (fun c => owed_0 (W0 m) c) (fun c => rec_0 (W0 m) c) (fun c => A_0 (W0 m) c)
    (fun c w => by
      fin_cases w
      · exact ((R0.dat (W0 m) c).arrAt_in (0 : Fin 2) rfl _).trans (V1_of m (outs m) c main_arg0 (by decide)).symm
      · exact (R0.final (W0 m) c).trans (W1_v0 m c).symm)
    (fun c b hb => V1_of m (outs m) c b (notMem_of in_0 hb))

def reg2 : RegionSeg (pcfgs (F := F)) adm (pdats m) () defs₀ Variants.none L lv 2 :=
  mkReg (pdats m) 2 launch2 (W2 m) (W3 m) (fun c => R2.body_obligation (W2 m) c) (fun c => Φ_2 (W2 m) c) (fun c => q_2 (W2 m) c)
    (fun c => owed_2 (W2 m) c) (fun c => rec_2 (W2 m) c) (fun c => A_2 (W2 m) c)
    (fun c w => by
      fin_cases w
      · exact ((R2.dat (W2 m) c).arrAt_in (0 : Fin 2) rfl _).trans (V3_of m (outs m) c main_arg1 (by decide)).symm
      · refine (R2.final (W2 m) c).trans (Eq.trans ?_ (W3_v2 m c).symm)
        rw [W2_arg1 m c])
    (fun c b hb => V3_of m (outs m) c b (notMem_of in_2 hb))

def reg1 : RegionSeg (pcfgs (F := F)) adm (pdats m) () defs₀ Variants.none L lv 1 :=
  mkReg (pdats m) 1 launch1 (W1 m) (W2 m) (fun c => R1.body_obligation (W1 m) c) (fun c => Φ_1 (W1 m) c) (fun c => q_1 (W1 m) c)
    (fun c => owed_1 (W1 m) c) (fun c => rec_1 (W1 m) c) (fun c => A_1 (W1 m) c)
    (fun c w => by
      fin_cases w
      · exact ((R1.dat (W1 m) c).arrAt_in (0 : Fin 7) rfl _).trans (V2_of m (outs m) c main_arg0 (by decide)).symm
      · exact ((R1.dat (W1 m) c).arrAt_in (1 : Fin 7) rfl _).trans (V2_of m (outs m) c main_v0 (by decide)).symm
      · refine (R1.final2 (W1 m) c).trans (Eq.trans ?_ ((W2_v1_0 m c).trans (ends_v1_0 m c)).symm)
        unfold R1.G2; rw [W1_arg0 m c, W1_v0 m c]
      · refine (R1.final3 (W1 m) c).trans (Eq.trans ?_ ((W2_v1_1 m c).trans (ends_v1_1 m c)).symm)
        unfold R1.G3; rw [W1_arg0 m c, W1_v0 m c]
      · refine (R1.final4 (W1 m) c).trans (Eq.trans ?_ ((W2_v1_2 m c).trans (ends_v1_2 m c)).symm)
        unfold R1.G4; rw [W1_v0 m c]
      · refine (R1.final5 (W1 m) c).trans (Eq.trans ?_ ((W2_v1_3 m c).trans (ends_v1_3 m c)).symm)
        unfold R1.G5; rw [W1_arg0 m c, W1_v0 m c]
      · refine (R1.final6 (W1 m) c).trans (Eq.trans ?_ ((W2_v1_4 m c).trans (ends_v1_4 m c)).symm)
        unfold R1.G6; rw [W1_arg0 m c, W1_v0 m c])
    (fun c b hb => V2_of m (outs m) c b (notMem_of in_1 hb))

def reg3 : RegionSeg (pcfgs (F := F)) adm (pdats m) () defs₀ Variants.none L lv 3 :=
  mkReg (pdats m) 3 launch3 (W3 m) (W4 m) (fun c => R3.body_obligation (W3 m) c) (fun c => Φ_3 (W3 m) c) (fun c => q_3 (W3 m) c)
    (fun c => owed_3 (W3 m) c) (fun c => rec_3 (W3 m) c) (fun c => A_3 (W3 m) c)
    (fun c w => by
      fin_cases w
      · exact ((R3.dat (W3 m) c).arrAt_in (0 : Fin 7) rfl _).trans (V4_of m (outs m) c main_arg1 (by decide)).symm
      · exact ((R3.dat (W3 m) c).arrAt_in (1 : Fin 7) rfl _).trans (V4_of m (outs m) c main_v2 (by decide)).symm
      · refine (R3.final2 (W3 m) c).trans (Eq.trans ?_ ((W4_v3_0 m c).trans (ends_v3_0 m c)).symm)
        unfold R3.G2; rw [W3_arg1 m c, W3_v2 m c]
      · refine (R3.final3 (W3 m) c).trans (Eq.trans ?_ ((W4_v3_1 m c).trans (ends_v3_1 m c)).symm)
        unfold R3.G3; rw [W3_arg1 m c, W3_v2 m c]
      · refine (R3.final4 (W3 m) c).trans (Eq.trans ?_ ((W4_v3_2 m c).trans (ends_v3_2 m c)).symm)
        unfold R3.G4; rw [W3_v2 m c]
      · refine (R3.final5 (W3 m) c).trans (Eq.trans ?_ ((W4_v3_3 m c).trans (ends_v3_3 m c)).symm)
        unfold R3.G5; rw [W3_arg1 m c, W3_v2 m c]
      · refine (R3.final6 (W3 m) c).trans (Eq.trans ?_ ((W4_v3_4 m c).trans (ends_v3_4 m c)).symm)
        unfold R3.G6; rw [W3_arg1 m c, W3_v2 m c])
    (fun c b hb => V4_of m (outs m) c b (notMem_of in_3 hb))

end Cert.Codec
-- ==== Proof.Run.lean ====
/-
  THE RUN: every execution of the kernel ends with the ten results at their closed forms, the arguments as they were and
  every semaphore at zero; for any float values.
-/
module

public import proofs.«01_k».proof.Proof.Regs2

@[expose] public section

set_option maxRecDepth 16384

noncomputable section

namespace Cert.Codec

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg RegionSeg)

variable {F : FTy → Type} [FloatOps F]

local notation "𝕄" => MT nD τ sig Unit (Elt F) ℕ (UR sig nD τ) ℕ

variable (m : (ℓ : Loc nD τ sig) → Buf (Elt F) ℓ)

section
variable (c : Dev nD)
theorem W4_v1_0 : W4 m c main_v1_0 = ends m c main_v1_0 :=
  (V4_of m (outs m) c main_v1_0 (by decide)).trans ((V3_of m (outs m) c main_v1_0 (by decide)).trans (W2_v1_0 m c))
theorem W4_v1_1 : W4 m c main_v1_1 = ends m c main_v1_1 :=
  (V4_of m (outs m) c main_v1_1 (by decide)).trans ((V3_of m (outs m) c main_v1_1 (by decide)).trans (W2_v1_1 m c))
theorem W4_v1_2 : W4 m c main_v1_2 = ends m c main_v1_2 :=
  (V4_of m (outs m) c main_v1_2 (by decide)).trans ((V3_of m (outs m) c main_v1_2 (by decide)).trans (W2_v1_2 m c))
theorem W4_v1_3 : W4 m c main_v1_3 = ends m c main_v1_3 :=
  (V4_of m (outs m) c main_v1_3 (by decide)).trans ((V3_of m (outs m) c main_v1_3 (by decide)).trans (W2_v1_3 m c))
theorem W4_v1_4 : W4 m c main_v1_4 = ends m c main_v1_4 :=
  (V4_of m (outs m) c main_v1_4 (by decide)).trans ((V3_of m (outs m) c main_v1_4 (by decide)).trans (W2_v1_4 m c))
end

/-- What the final memory of one core holds. -/
def Good (c : Dev nD) (s : (ℓ : Loc nD τ sig) → Buf (Elt F) ℓ) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_v1_0) = ends m c main_v1_0
  ∧ s ((c.tc : Thread nD τ).loc main_v3_0) = ends m c main_v3_0
  ∧ s ((c.tc : Thread nD τ).loc main_v1_1) = ends m c main_v1_1
  ∧ s ((c.tc : Thread nD τ).loc main_v1_2) = ends m c main_v1_2
  ∧ s ((c.tc : Thread nD τ).loc main_v1_3) = ends m c main_v1_3
  ∧ s ((c.tc : Thread nD τ).loc main_v1_4) = ends m c main_v1_4
  ∧ s ((c.tc : Thread nD τ).loc main_v3_1) = ends m c main_v3_1
  ∧ s ((c.tc : Thread nD τ).loc main_v3_2) = ends m c main_v3_2
  ∧ s ((c.tc : Thread nD τ).loc main_v3_3) = ends m c main_v3_3
  ∧ s ((c.tc : Thread nD τ).loc main_v3_4) = ends m c main_v3_4

theorem good_of (c : Dev nD) (s : (ℓ : Loc nD τ sig) → Buf (Elt F) ℓ)
    (h : ∀ r : Ref sig .tc, Proc.devRef .tc r ∈ Pipeline.ucRefs τ sig → s ((c.tc : Thread nD τ).loc r) = W4 m c r) : Good m c s :=
  ⟨(h main_arg0 (Finset.mem_filter.mpr ⟨StableHlo.devRef_mem_tcRefs main_arg0, by decide⟩)).trans (V4_main_arg0 m (outs m) c),
   (h main_arg1 (Finset.mem_filter.mpr ⟨StableHlo.devRef_mem_tcRefs main_arg1, by decide⟩)).trans (V4_main_arg1 m (outs m) c),
   (h main_v1_0 (Finset.mem_filter.mpr ⟨StableHlo.devRef_mem_tcRefs main_v1_0, by decide⟩)).trans (W4_v1_0 m c),
   (h main_v3_0 (Finset.mem_filter.mpr ⟨StableHlo.devRef_mem_tcRefs main_v3_0, by decide⟩)).trans (W4_v3_0 m c),
   (h main_v1_1 (Finset.mem_filter.mpr ⟨StableHlo.devRef_mem_tcRefs main_v1_1, by decide⟩)).trans (W4_v1_1 m c),
   (h main_v1_2 (Finset.mem_filter.mpr ⟨StableHlo.devRef_mem_tcRefs main_v1_2, by decide⟩)).trans (W4_v1_2 m c),
   (h main_v1_3 (Finset.mem_filter.mpr ⟨StableHlo.devRef_mem_tcRefs main_v1_3, by decide⟩)).trans (W4_v1_3 m c),
   (h main_v1_4 (Finset.mem_filter.mpr ⟨StableHlo.devRef_mem_tcRefs main_v1_4, by decide⟩)).trans (W4_v1_4 m c),
   (h main_v3_1 (Finset.mem_filter.mpr ⟨StableHlo.devRef_mem_tcRefs main_v3_1, by decide⟩)).trans (W4_v3_1 m c),
   (h main_v3_2 (Finset.mem_filter.mpr ⟨StableHlo.devRef_mem_tcRefs main_v3_2, by decide⟩)).trans (W4_v3_2 m c),
   (h main_v3_3 (Finset.mem_filter.mpr ⟨StableHlo.devRef_mem_tcRefs main_v3_3, by decide⟩)).trans (W4_v3_3 m c),
   (h main_v3_4 (Finset.mem_filter.mpr ⟨StableHlo.devRef_mem_tcRefs main_v3_4, by decide⟩)).trans (W4_v3_4 m c)⟩

/-- What the launch hands over beyond the buffers is each core's empty dues. -/
theorem launch_rest (ρ : Dev nD → PrngReg) :
    iprop((bigSep Finset.univ fun c : Dev nD => iprop(unscopedSems0 c ∗ owes (c : Thread nD τ) (0 : CellTallies nD τ sig Unit) ∅
        ∗ Pipeline.launchCred (fun _ : Dev nD => (0 : CellTallies nD τ sig Unit)) c ∗ prngReg c (ρ c) ∗ emp)) ∗ levAts L lv)
      ⊢ (bigSep Finset.univ fun c => Rest (F := F) c : sProp 𝕄) := by
  have h1 : ∀ c : Dev nD, iprop(unscopedSems0 c ∗ owes (c : Thread nD τ) (0 : CellTallies nD τ sig Unit) ∅
        ∗ Pipeline.launchCred (fun _ : Dev nD => (0 : CellTallies nD τ sig Unit)) c ∗ prngReg c (ρ c) ∗ emp) ⊢ (Rest (F := F) c : sProp 𝕄) :=
    fun c => by
      iintro ⟨-, HO, -⟩
      iexists (∅ : Waits sig Unit)
      iexact HO
  exact sep_elim_left.trans (bigSep_mono fun c _ => h1 c)

set_option backward.isDefEq.respectTransparency.types false in
theorem run_all (ρ : Dev nD → PrngReg) :
    θ_run defs (onTc (τ := τ) (main (F := F))) ⟨m, fun _ => 0, ρ⟩ (fun r => (∀ c : Dev nD, Good m c r.2.mem) ∧ r.2.sem = fun _ => 0) := by
  have hu₀ : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
        ∗ bigSep Finset.univ fun _ : Dev nD => iprop(emp)) := by
    iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  refine Pipeline.θ_run_regions_kit_dev_sems (pcfgs (F := F)) adm (pdats m) () cellOf_inj emb₁ defs₀ Variants.none L lv m ρ main
    (segs Variants.none L lv (fun _ c => Rest (F := F) c) () (pdats m) (reg0 m) (reg1 m) (reg2 m) (reg3 m))
    (fun c Q => by
      rewrite [main_chain c, Seg.run_eq_chain,
        show (segs Variants.none L lv (fun _ c => Rest (F := F) c) () (pdats m) (reg0 m) (reg1 m) (reg2 m) (reg3 m) c).map Seg.prog = [
          Prog.lift (.customCall (Pipeline.entry 0) ()),
          Prog.lift (.customCall (Pipeline.entry 1) ()),
          Prog.lift (.customCall (Pipeline.entry 2) ()),
          Prog.lift (.customCall (Pipeline.entry 3) ()) ] from rfl]
      dsimp (config := { failIfUnchanged := false }) only
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj))
    hu₀
    (T₀ := fun c => iprop(StableHlo.held (c : Thread nD τ) (Pipeline.ucRefs τ sig) (V0 m c) ∗ Rest (F := F) c))
    (Tₙ := fun c => StableHlo.held (c : Thread nD τ) (Pipeline.ucRefs τ sig) (W4 m c))
    (hch := fun c => ⟨.rfl, .rfl, .rfl, .rfl, sep_mono .rfl .rfl⟩)
    (hinit := ?_) (QY := fun c s => Good m c s.mem)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    ihave HE := (launch_rest (F := F) ρ) $$ [Hr Hla]
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact good_of m c s'.mem.mem fun r hr => h (Proc.devRef .tc r) hr
    · iexact HSI

end Cert.Codec
-- ==== Proof.Same.lean ====
/-
  THE KERNEL AND ITS IDEALISATION ARE ONE PROGRAM: no operation was rewritten, so the two texts agree for any float values,
  and what is shown of one's runs holds of the other's.
-/
module

public import proofs.«01_k».proof.Proof.Gen.Kernel
public import proofs.«01_k».proof.Proof.Gen.KernelIdeal

@[expose] public section
noncomputable section
namespace Cert.Same
open Idealize.ShloMosaic Idealize.SL.Sem
variable {F : FTy → Type} [FloatOps F]
set_option maxRecDepth 65536
set_option maxHeartbeats 8000000
/-- The four bodies, the four launches and `@main` agree, text for text. -/
theorem c0 : @Cert.Kernel.cc0_anchor_amax F _ _ = @Cert.KernelIdeal.cc0_anchor_amax F _ _ := rfl
theorem c1 : @Cert.Kernel.cc1_codec F _ _ = @Cert.KernelIdeal.cc1_codec F _ _ := rfl
theorem c2 : @Cert.Kernel.cc2_anchor_amax F _ _ = @Cert.KernelIdeal.cc2_anchor_amax F _ _ := rfl
theorem c3 : @Cert.Kernel.cc3_codec F _ _ = @Cert.KernelIdeal.cc3_codec F _ _ := rfl
theorem pcfgs' : Cert.Kernel.pcfgs (F := F) = Cert.KernelIdeal.pcfgs (F := F) := rfl
theorem defs₀' : Cert.Kernel.defs₀ (F := F) = Cert.KernelIdeal.defs₀ (F := F) := by
  unfold Cert.Kernel.defs₀ Cert.KernelIdeal.defs₀
  simp only [c0, c1, c2, c3]
  refine congrArg Defs.onTc ?_
  funext l
  fin_cases l
  · funext a; obtain ⟨t, s⟩ := a; rfl
  · funext a; obtain ⟨t, s⟩ := a; rfl
  · funext a; obtain ⟨t, s⟩ := a; rfl
  · funext a; obtain ⟨t, s⟩ := a; rfl
theorem main' : @Cert.Kernel.main F _ = @Cert.KernelIdeal.main F _ := rfl
/-- So the two programs' definitions are equal. -/
theorem defs' : Cert.Kernel.defs (F := F) = Cert.KernelIdeal.defs (F := F) := by
  unfold Cert.Kernel.defs Cert.KernelIdeal.defs
  exact congrArg (Pipeline.defs (Cert.KernelIdeal.pcfgs (F := F))) defs₀'

end Cert.Same
-- ==== Proof.Frames.lean ====
/-
  THE FRAMES, and that the run as printed is the idealized program's: the two programs are one text.
-/
module

public import proofs.«01_k».proof.Defs
public import proofs.«01_k».proof.Proof.Run
public import proofs.«01_k».proof.Proof.Same
public import proofs.«01_k».proof.Proof.Gen.ReferenceIdeal.Run

@[expose] public section

set_option maxRecDepth 16384

noncomputable section

namespace Cert.Codec

open Idealize.ShloMosaic Idealize.SL.Sem

section
open Cert.KernelIdeal
variable {F : FTy → Type} [FloatOps F]
theorem frame_kernel (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := F)) _ _).mono (fun _ h => ⟨fun c => ⟨(h.1 c).1, (h.1 c).2.1⟩, h.2⟩) (run_all m ρ)
end

theorem frame_ideal : Cert.quiescent_KernelIdeal := fun m ρ _ => frame_kernel (F := Ideal) m ρ

theorem frame_bits : Cert.quiescent_Kernel := by
  intro m ρ _
  rw [Cert.Same.defs', Cert.Same.main']
  exact frame_kernel (F := Bits) m ρ

theorem frame_ref : Cert.quiescent_ReferenceIdeal := by
  intro m ρ _
  exact (θ_run Cert.ReferenceIdeal.defs _ _).mono (fun r h => ⟨fun c => (h c).2.2.2.2.2.2.2.2.2.2,
      Idealize.ShloMosaic.sem_eq_zero_of_no_sems (by decide) r.2⟩)
    (Cert.ReferenceIdeal.Value.run (F := Ideal) m ρ)

end Cert.Codec
-- ==== Proof.IdealMath.lean ====
/-
  THE CODEC'S MATHEMATICS AT THE IDEAL VALUES: a code is a whole number between its bounds, so its byte reads back as that
  number; a decoded anchor is finite, so the largest distance from it is the larger of the two one-sided distances; a running
  maximum of absolute values from zero is their maximum.
-/
module

public import proofs.«01_k».proof.Proof.Vals
public import Idealize.ShloMosaic.Lib.IdealHost

@[expose] public section

noncomputable section

namespace Cert.Codec

open Idealize.ShloMosaic

/-! ## The constants -/

theorem bits_127 : Ideal.ofBits .f32 0x42FE0000#32 = ((127 : ℝ) : EReal) := by
  simp [Ideal.ofBits, Ideal.ieee, -EReal.coe_mul]; norm_num
theorem bits_n127 : Ideal.ofBits .f32 0xC2FE0000#32 = ((-127 : ℝ) : EReal) := by
  simp [Ideal.ofBits, Ideal.ieee, -EReal.coe_mul, -EReal.coe_neg]; norm_num
theorem bits_7 : Ideal.ofBits .f32 0x40E00000#32 = ((7 : ℝ) : EReal) := by
  simp [Ideal.ofBits, Ideal.ieee, -EReal.coe_mul]; norm_num
theorem bits_n7 : Ideal.ofBits .f32 0xC0E00000#32 = ((-7 : ℝ) : EReal) := by
  simp [Ideal.ofBits, Ideal.ieee, -EReal.coe_mul, -EReal.coe_neg]; norm_num
theorem bits_bot : Ideal.ofBits .f32 0xFF800000#32 = ⊥ := by simp [Ideal.ofBits, Ideal.ieee]
theorem bits_0 : Ideal.ofBits .f32 0x00000000#32 = 0 := Ideal.ofBits_zero_f32
theorem bits_1 : Ideal.ofBits .f32 0x3F800000#32 = 1 := Ideal.ofBits_one_f32

/-! ## Codes -/

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- A number rounded and clipped to `[-n, n]` is a whole number there. -/
theorem clip_int (n : ℕ) (a b v : EReal) (ha : a = ((-(n : ℝ) : ℝ) : EReal)) (hb : b = (((n : ℝ) : ℝ) : EReal)) :
    ∃ k : ℤ, -(n : ℤ) ≤ k ∧ k ≤ n ∧ min b (max a (Ideal.liftRound Ideal.roundHalfEven v)) = (((k : ℝ) : ℝ) : EReal) := by
  subst ha hb
  have hn : (-(n : ℝ) : ℝ) ≤ n := by have : (0 : ℝ) ≤ n := Nat.cast_nonneg n; linarith
  induction v using EReal.rec with
  | bot => exact ⟨-(n : ℤ), le_rfl, by omega, by
      show min _ (max _ (⊥ : EReal)) = _
      rw [max_eq_left bot_le, min_eq_right (EReal.coe_le_coe_iff.mpr hn)]; push_cast; rfl⟩
  | top => exact ⟨(n : ℤ), by omega, le_rfl, by
      show min _ (max _ (⊤ : EReal)) = _
      rw [max_eq_right le_top, min_eq_left le_top]; push_cast; rfl⟩
  | coe r =>
    refine ⟨min (n : ℤ) (max (-(n : ℤ)) (Ideal.roundHalfEven r)), le_min (by omega) (le_max_left _ _), min_le_left _ _, ?_⟩
    show min _ (max _ (((Ideal.roundHalfEven r : ℤ) : ℝ) : EReal)) = _
    rw [← coe_max', ← coe_min']
    push_cast; rfl

theorem quant127_int (v sc : EReal) : ∃ k : ℤ, -127 ≤ k ∧ k ≤ 127 ∧
    quant (F := Ideal) 0xC2FE0000#32 0x42FE0000#32 v sc = (((k : ℝ) : ℝ) : EReal) :=
  clip_int 127 _ _ (Ideal.div v sc) bits_n127 bits_127

theorem quant7_int (v sc : EReal) : ∃ k : ℤ, -7 ≤ k ∧ k ≤ 7 ∧
    quant (F := Ideal) 0xC0E00000#32 0x40E00000#32 v sc = (((k : ℝ) : ℝ) : EReal) :=
  clip_int 7 _ _ (Ideal.div v sc) bits_n7 bits_7

theorem trunc_int (k : ℤ) : (if (0 : ℝ) ≤ (k : ℝ) then ⌊(k : ℝ)⌋ else ⌈(k : ℝ)⌉) = k := by
  split <;> simp

/-- A small whole number converts to itself. -/
theorem fptosi_int (w : ℕ) (k : ℤ) (h0 : -(2 ^ (w - 1) : ℕ) ≤ k) (h1 : k ≤ (2 ^ (w - 1) : ℕ) - 1) :
    Ideal.fptosi w (((k : ℝ) : ℝ) : EReal) = BitVec.ofInt w k := by
  unfold Ideal.fptosi
  rw [Ideal.toIntClamped_coe, trunc_int, min_eq_right h1, max_eq_right h0]

theorem fptosi32_int (k : ℤ) (h0 : -127 ≤ k) (h1 : k ≤ 127) : Ideal.fptosi 32 (((k : ℝ) : ℝ) : EReal) = BitVec.ofInt 32 k :=
  fptosi_int 32 k (by norm_num; omega) (by norm_num; omega)
theorem fptosi8_int (k : ℤ) (h0 : -127 ≤ k) (h1 : k ≤ 127) : Ideal.fptosi 8 (((k : ℝ) : ℝ) : EReal) = BitVec.ofInt 8 k :=
  fptosi_int 8 k (by norm_num; omega) (by norm_num; omega)

theorem setWidth_ofInt (k : ℤ) : (BitVec.ofInt 32 k).setWidth 8 = BitVec.ofInt 8 k := by
  apply BitVec.eq_of_toNat_eq
  rw [BitVec.toNat_setWidth, BitVec.toNat_ofInt, BitVec.toNat_ofInt]
  norm_num
  omega

theorem toInt_byte (k : ℤ) (h0 : -127 ≤ k) (h1 : k ≤ 127) : (BitVec.ofInt 8 k).toInt = k := by
  rw [BitVec.toInt_ofInt, Int.bmod_eq_of_le] <;> norm_num <;> omega

theorem signExtend_byte (k : ℤ) (h0 : -127 ≤ k) (h1 : k ≤ 127) : (BitVec.ofInt 8 k).signExtend 32 = BitVec.ofInt 32 k := by
  apply BitVec.eq_of_toInt_eq
  rw [BitVec.toInt_signExtend_of_le (by decide), toInt_byte k h0 h1, BitVec.toInt_ofInt, Int.bmod_eq_of_le] <;> norm_num <;> omega

/-- A code's byte by way of a word is the code's byte; read back it is the code. -/
theorem byte_of_code {q : EReal} (h : ∃ k : ℤ, -127 ≤ k ∧ k ≤ 127 ∧ q = (((k : ℝ) : ℝ) : EReal)) :
    (Ideal.fptosi 32 q).setWidth 8 = Ideal.fptosi 8 q := by
  obtain ⟨k, h0, h1, rfl⟩ := h
  rw [fptosi32_int k h0 h1, fptosi8_int k h0 h1, setWidth_ofInt]

theorem word_of_byte {q : EReal} (h : ∃ k : ℤ, -127 ≤ k ∧ k ≤ 127 ∧ q = (((k : ℝ) : ℝ) : EReal)) :
    ((Ideal.fptosi 32 q).setWidth 8).signExtend 32 = Ideal.fptosi 32 q := by
  obtain ⟨k, h0, h1, rfl⟩ := h
  rw [fptosi32_int k h0 h1, setWidth_ofInt, signExtend_byte k h0 h1]

theorem code_of_word {q : EReal} (h : ∃ k : ℤ, -127 ≤ k ∧ k ≤ 127 ∧ q = (((k : ℝ) : ℝ) : EReal)) :
    ((((Ideal.fptosi 32 q).setWidth 8).signExtend 32).toInt : ℝ) = q := by
  rw [word_of_byte h]
  obtain ⟨k, h0, h1, rfl⟩ := h
  rw [fptosi32_int k h0 h1, BitVec.toInt_ofInt, Int.bmod_eq_of_le] <;> norm_num <;> omega

theorem small_of_seven {q : EReal} (h : ∃ k : ℤ, -7 ≤ k ∧ k ≤ 7 ∧ q = (((k : ℝ) : ℝ) : EReal)) :
    ∃ k : ℤ, -127 ≤ k ∧ k ≤ 127 ∧ q = (((k : ℝ) : ℝ) : EReal) := by
  obtain ⟨k, h0, h1, h⟩ := h; exact ⟨k, by omega, by omega, h⟩

theorem aCode_int (sc x : EReal) : ∃ k : ℤ, -127 ≤ k ∧ k ≤ 127 ∧ aCode (F := Ideal) sc x = (((k : ℝ) : ℝ) : EReal) := quant127_int _ _
theorem dCode_int (sc : EReal) (x : ℕ → EReal) (t : ℕ) :
    ∃ k : ℤ, -127 ≤ k ∧ k ≤ 127 ∧ dCode (F := Ideal) sc x t = (((k : ℝ) : ℝ) : EReal) := small_of_seven (quant7_int _ _)

/-! ## The decoded anchor is finite -/

/-- The anchors' scale is infinite or a real number, never below. -/
theorem aScale_cases (M : EReal) : aScale (F := Ideal) M = (⊤ : EReal) ∨ ∃ r : ℝ, aScale (F := Ideal) M = (r : EReal) := by
  show Scalar.select (Ideal.cmp .ogt M (Ideal.ofBits .f32 0x00000000#32)) (Ideal.div M (Ideal.ofBits .f32 0x42FE0000#32))
      (Ideal.ofBits .f32 0x3F800000#32) = ⊤ ∨ ∃ r : ℝ, Scalar.select (Ideal.cmp .ogt M (Ideal.ofBits .f32 0x00000000#32))
      (Ideal.div M (Ideal.ofBits .f32 0x42FE0000#32)) (Ideal.ofBits .f32 0x3F800000#32) = (r : EReal)
  rw [bits_0, bits_127, bits_1, Ideal.div_coe (by norm_num)]
  unfold Scalar.select
  split
  · rename_i hc
    induction M using EReal.rec with
    | bot => exact absurd hc (by simp [Ideal.cmp])
    | top => exact .inl (EReal.top_mul_coe_of_pos (by norm_num))
    | coe r => exact .inr ⟨r * (1 / 127), by rw [EReal.coe_mul]⟩
  · exact .inr ⟨1, rfl⟩

theorem deq_real (M x : EReal) : ∃ r : ℝ, deq (F := Ideal) (aScale (F := Ideal) M) x = (r : EReal) := by
  rcases aScale_cases M with h | ⟨s, h⟩
  · refine ⟨0, ?_⟩
    rw [h]
    show min (Ideal.ofBits .f32 0x42FE0000#32) (max (Ideal.ofBits .f32 0xC2FE0000#32) (Ideal.liftRound Ideal.roundHalfEven (Ideal.div x ⊤))) * ⊤ = _
    have hd : Ideal.div x ⊤ = ((0 : ℝ) : EReal) := by
      unfold Ideal.div; rw [if_neg (by simp), EReal.inv_top, mul_zero]; rfl
    have h0 : Ideal.roundHalfEven 0 = 0 := by unfold Ideal.roundHalfEven; norm_num
    rw [hd]
    show min _ (max _ (((Ideal.roundHalfEven 0 : ℤ) : ℝ) : EReal)) * ⊤ = _
    rw [h0, bits_127, bits_n127, ← coe_max', ← coe_min']
    norm_num
  · obtain ⟨k, -, -, hk⟩ := aCode_int (aScale (F := Ideal) M) x
    refine ⟨k * s, ?_⟩
    show aCode (F := Ideal) (aScale (F := Ideal) M) x * aScale (F := Ideal) M = _
    rw [hk, h, EReal.coe_mul]

/-! ## Maxima -/

theorem abs_nonneg' (x : EReal) : 0 ≤ max x (-x) := by
  rcases le_total 0 x with h | h
  · exact le_max_of_le_left h
  · exact le_max_of_le_right (EReal.neg_nonneg.mpr h)

theorem amaxUpTo_le (x : ℕ → EReal) (c : EReal) : ∀ n, amaxUpTo (F := Ideal) x n ≤ c ↔ 0 ≤ c ∧ ∀ k < n, max (x k) (-(x k)) ≤ c
  | 0 => by
    show Ideal.ofBits .f32 0x00000000#32 ≤ c ↔ _
    rw [bits_0]; simp
  | n + 1 => by
    show max (amaxUpTo (F := Ideal) x n) (max (x n) (-(x n))) ≤ c ↔ _
    rw [max_le_iff, amaxUpTo_le x c n]
    constructor
    · rintro ⟨⟨h0, h⟩, hn⟩
      refine ⟨h0, fun k hk => ?_⟩
      rcases Nat.lt_succ_iff_lt_or_eq.mp hk with h' | rfl
      · exact h k h'
      · exact hn
    · exact fun ⟨h0, h⟩ => ⟨⟨h0, fun k hk => h k (by omega)⟩, h n (by omega)⟩

/-- The largest absolute value of the anchors, from the least value or from zero. -/
theorem fold_amax (x : ℕ → EReal) (n : ℕ) (hn : 0 < n) (f : Fin n → EReal) (hf : ∀ k, f k = max (x k.val) (-(x k.val))) :
    (Finset.univ : Finset (Fin n)).fold max (⊥ : EReal) f = amaxUpTo (F := Ideal) x n := by
  refine eq_of_forall_ge_iff fun c => ?_
  rw [Finset.fold_max_le, amaxUpTo_le]
  constructor
  · rintro ⟨-, h⟩
    refine ⟨(abs_nonneg' (x 0)).trans ?_, fun k hk => ?_⟩
    · have := h ⟨0, hn⟩ (Finset.mem_univ _); rwa [hf] at this
    · have := h ⟨k, hk⟩ (Finset.mem_univ _); rwa [hf] at this
  · exact fun ⟨_, h⟩ => ⟨bot_le, fun k _ => by rw [hf]; exact h k.val k.isLt⟩

theorem hiTo_sub (x : ℕ → EReal) (d c : EReal) : ∀ n, hiTo (F := Ideal) x n - d ≤ c ↔ ∀ t ≤ n, x t - d ≤ c
  | 0 => by
    show x 0 - d ≤ c ↔ _
    exact ⟨fun h t ht => by rwa [Nat.le_zero.mp ht], fun h => h 0 le_rfl⟩
  | n + 1 => by
    show max (hiTo (F := Ideal) x n) (x (n + 1)) - d ≤ c ↔ _
    rw [show max (hiTo (F := Ideal) x n) (x (n + 1)) - d = max (hiTo (F := Ideal) x n - d) (x (n + 1) - d) from
      Monotone.map_max (f := fun a : EReal => a - d) fun _ _ h => EReal.sub_le_sub h le_rfl, max_le_iff, hiTo_sub x d c n]
    constructor
    · rintro ⟨h, h'⟩ t ht
      rcases Nat.le_succ_iff.mp ht with h1 | rfl
      · exact h t h1
      · exact h'
    · exact fun h => ⟨fun t ht => h t (by omega), h (n + 1) le_rfl⟩

theorem sub_loTo (x : ℕ → EReal) (d c : EReal) : ∀ n, d - loTo (F := Ideal) x n ≤ c ↔ ∀ t ≤ n, d - x t ≤ c
  | 0 => by
    show d - x 0 ≤ c ↔ _
    exact ⟨fun h t ht => by rwa [Nat.le_zero.mp ht], fun h => h 0 le_rfl⟩
  | n + 1 => by
    show d - min (loTo (F := Ideal) x n) (x (n + 1)) ≤ c ↔ _
    rw [show d - min (loTo (F := Ideal) x n) (x (n + 1)) = max (d - loTo (F := Ideal) x n) (d - x (n + 1)) from
      Antitone.map_min (f := fun a : EReal => d - a) fun _ _ h => EReal.sub_le_sub le_rfl h, max_le_iff, sub_loTo x d c n]
    constructor
    · rintro ⟨h, h'⟩ t ht
      rcases Nat.le_succ_iff.mp ht with h1 | rfl
      · exact h t h1
      · exact h'
    · exact fun h => ⟨fun t ht => h t (by omega), h (n + 1) le_rfl⟩

/-- The largest distance of a group's tokens from the decoded anchor, absent tokens counted zero: a token absent is a copy
of one present. -/
theorem fold_gmax (M : EReal) (x : ℕ → EReal) (p : ℕ → Prop) (f : Fin 10 → EReal) (h0 : p 0)
    (hp : ∀ t ≤ 9, ¬ p t → ∃ s ≤ 9, p s ∧ x t = x s)
    (hf : ∀ t : Fin 10, p t.val → f t = max (x t.val - deq (F := Ideal) (aScale (F := Ideal) M) (x 0)) (-(x t.val - deq (F := Ideal) (aScale (F := Ideal) M) (x 0))))
    (hf' : ∀ t : Fin 10, ¬ p t.val → f t = 0) :
    (Finset.univ : Finset (Fin 10)).fold max (⊥ : EReal) f = gmax (F := Ideal) (aScale (F := Ideal) M) x := by
  obtain ⟨r, hr⟩ := deq_real M (x 0)
  refine eq_of_forall_ge_iff fun c => ?_
  show _ ↔ max (hiTo (F := Ideal) x 9 - deq (F := Ideal) (aScale (F := Ideal) M) (x 0))
    (deq (F := Ideal) (aScale (F := Ideal) M) (x 0) - loTo (F := Ideal) x 9) ≤ c
  rw [hr] at hf ⊢
  have hn : ∀ y : EReal, -(y - (r : EReal)) = (r : EReal) - y := fun y =>
    (EReal.neg_sub (.inr (EReal.coe_ne_bot r)) (.inr (EReal.coe_ne_top r))).trans ((add_comm _ _).trans (sub_eq_add_neg _ _).symm)
  rw [Finset.fold_max_le, max_le_iff, hiTo_sub, sub_loTo]
  have key : ∀ t : Fin 10, p t.val → (f t ≤ c ↔ x t.val - r ≤ c ∧ (r : EReal) - x t.val ≤ c) := fun t ht => by
    rw [hf t ht, hn, max_le_iff]
  constructor
  · rintro ⟨-, h⟩
    have hall : ∀ t ≤ 9, x t - r ≤ c ∧ (r : EReal) - x t ≤ c := by
      intro t ht
      by_cases hpt : p t
      · exact (key ⟨t, by omega⟩ hpt).mp (h _ (Finset.mem_univ _))
      · obtain ⟨s, hs, hps, e⟩ := hp t ht hpt
        rw [e]; exact (key ⟨s, by omega⟩ hps).mp (h _ (Finset.mem_univ _))
    exact ⟨fun t ht => (hall t ht).1, fun t ht => (hall t ht).2⟩
  · rintro ⟨h1, h2⟩
    refine ⟨bot_le, fun t _ => ?_⟩
    by_cases hpt : p t.val
    · exact (key t hpt).mpr ⟨h1 _ (by omega), h2 _ (by omega)⟩
    · rw [hf' t hpt]
      have := abs_nonneg' (x 0 - r)
      rw [hn] at this
      exact this.trans (max_le (h1 0 (by omega)) (h2 0 (by omega)))

end Cert.Codec
-- ==== Proof.RefRead.lean ====
/-
  THE REFERENCE READ AT AN INDEX, at the ideal values: each of its five results for one argument is the closed form the
  kernel's result has (`gHat`, `gAc`, `gAs`, `gDc`, `gDs`).
-/
module

public import proofs.«01_k».proof.Proof.Gen.ReferenceIdeal.Read
public import proofs.«01_k».proof.Proof.IdealMath
public import Idealize.ShloMosaic.Lib.KernelVsHost

@[expose] public section

set_option maxRecDepth 16384

noncomputable section

namespace Cert.RefRead

open Cert.Codec Idealize.ShloMosaic Cert.ReferenceIdeal Cert.ReferenceIdeal.Gen Cert.ReferenceIdeal.Read

/-! ## The second argument's operations are the first's -/

section
variable {F : FTy → Type} [FloatOps F]
theorem same_8 : @val_main_v67 F _ = @val_main_v8 F _ := rfl
theorem same_15 : @val_main_v74 F _ = @val_main_v15 F _ := rfl
theorem same_35 : @val_main_v94 F _ = @val_main_v35 F _ := rfl
theorem same_53 : @val_main_v112 F _ = @val_main_v53 F _ := rfl
theorem same_58 : @val_main_v117 F _ = @val_main_v58 F _ := rfl
end

/-! ## Indices -/

theorem lt0 {b n h d : ℕ} (y : (⟨4, ![b, n, h, d]⟩ : Shape).Idx) : (y 0).val < b := (y 0).isLt
theorem lt1 {b n h d : ℕ} (y : (⟨4, ![b, n, h, d]⟩ : Shape).Idx) : (y 1).val < n := (y 1).isLt
theorem lt2 {b n h d : ℕ} (y : (⟨4, ![b, n, h, d]⟩ : Shape).Idx) : (y 2).val < h := (y 2).isLt
theorem lt3 {b n h d : ℕ} (y : (⟨4, ![b, n, h, d]⟩ : Shape).Idx) : (y 3).val < d := (y 3).isLt

abbrev Tokens := (⟨4, ![3, 8192, 16, 128]⟩ : Shape).Idx → EReal

variable (x : Tokens)

/-- The anchors' largest absolute value, per block, head and channel. -/
def amaxOf : (⟨3, ![3, 16, 128]⟩ : Shape).Idx → EReal := fun y =>
  amaxUpTo (F := Ideal) (anch (F := Ideal) x (y 0).val (y 1).val (y 2).val) 820

/-! ## The anchors -/

theorem v0_at (i : S3x820x16x128.Idx) : val_main_v0 (F := Ideal) x i = x (at4 (i 0).val (10 * (i 1).val) (i 2).val (i 3).val) := by
  refine congrArg x (Eq.symm (at4_eq _ ?_ ?_ ?_ ?_))
  · show (i 0).val = 0 + 1 * (i 0).val; omega
  · show 10 * (i 1).val = 0 + 10 * (i 1).val; omega
  · show (i 2).val = 0 + 1 * (i 2).val; omega
  · show (i 3).val = 0 + 1 * (i 3).val; omega

theorem v2_at (i : S3x820x16x128.Idx) : val_main_v2 (F := Ideal) x i
    = max (x (at4 (i 0).val (10 * (i 1).val) (i 2).val (i 3).val)) (-(x (at4 (i 0).val (10 * (i 1).val) (i 2).val (i 3).val))) := by
  show max (val_main_v0 (F := Ideal) x i) (-(val_main_v0 (F := Ideal) x i)) = _
  rw [v0_at]

theorem red3 : (⟨4, ![3, 820, 16, 128]⟩ : Shape).Reduces [1] ⟨3, ![3, 16, 128]⟩ := by decide

theorem v3_at (j : S3x16x128.Idx) : val_main_v3 (F := Ideal) x j = amaxOf x j := by
  unfold val_main_v3
  refine (Host.reduce_eq_fold_single (α := EReal) max _ _ _ red3 _ j).trans ?_
  rw [show val_main_cst (F := Ideal) (Shape.Idx.first h_S_) = (⊥ : EReal) from bits_bot]
  exact fold_amax (anch (F := Ideal) x (j 0).val (j 1).val (j 2).val) 820 (by decide) _ fun k => v2_at x _

attribute [local irreducible] amaxUpTo amaxOf

theorem hdiv (a b : EReal) : FloatOps.hostDivf (F := Ideal) (φ := .f32) a b = FloatOps.divf (F := Ideal) (φ := .f32) a b := rfl
theorem hround (a : EReal) : FloatOps.hostUnary (F := Ideal) (φ := .f32) .roundeven a = FloatOps.roundeven (F := Ideal) (φ := .f32) a := rfl
theorem habs (a : EReal) : FloatOps.hostAbsf (F := Ideal) (φ := .f32) a = max a (-a) := rfl

theorem v8_at (j : S3x16x128.Idx) : val_main_v8 (F := Ideal) x j = gAs (F := Ideal) (amaxOf x) j := by
  rw [val_main_v8_apply, val_main_v5_apply, val_main_v7_apply, v3_at, val_main_v4_apply, val_main_v6_apply, val_main_call0_v1_apply,
    val_main_call0_v0_apply, hdiv]
  unfold gAs aScale scaleOf
  generalize amaxOf x j = a
  rfl

/-- The scale at a block, head and channel. -/
abbrev sc (i h d : ℕ) : EReal := scAt (F := Ideal) (amaxOf x) i h d

theorem v10_at (i : S3x820x16x128.Idx) : val_main_v10 (F := Ideal) x i = sc x (i 0).val (i 2).val (i 3).val := by
  rw [val_main_v10_apply, val_main_v9_apply, v8_at]
  exact congrArg (fun y => aScale (F := Ideal) (amaxOf x y)) (at3_eq _ rfl rfl rfl).symm

theorem v1_at (i : S3x820x16x128.Idx) : val_main_v1 (F := Ideal) x i
    = wide (F := Ideal) (x (at4 (i 0).val (10 * (i 1).val) (i 2).val (i 3).val)) :=
  (show val_main_v1 (F := Ideal) x i = val_main_v0 (F := Ideal) x i from rfl).trans (v0_at x i)

theorem v13_at (i : S3x820x16x128.Idx) : val_main_v13 (F := Ideal) x i
    = aCode (F := Ideal) (sc x (i 0).val (i 2).val (i 3).val) (x (at4 (i 0).val (10 * (i 1).val) (i 2).val (i 3).val)) := by
  rw [val_main_v13_apply, val_main_call2_v2_apply, val_main_v12_apply, val_main_v11_apply, v10_at, v1_at, val_main_call2_v4_apply,
    val_main_call2_v1_apply, val_main_call2_v0_apply, val_main_call2_v3_apply, hdiv, hround]
  unfold aCode quant
  rfl

/-- Group `g`'s tokens. -/
abbrev grp (i g h d : ℕ) : ℕ → EReal := tok (F := Ideal) x i 8192 g h d

theorem anchor_tok (i g h d : ℕ) (hg : g < 820) : x (at4 i (10 * g) h d) = grp x i g h d 0 := by
  show _ = x (at4 i (min (10 * g + 0 % 10) (8192 - 1)) h d)
  rw [show min (10 * g + 0 % 10) (8192 - 1) = 10 * g from by omega]

theorem byte_code {q : EReal} (h : ∃ k : ℤ, -127 ≤ k ∧ k ≤ 127 ∧ q = (((k : ℝ) : ℝ) : EReal)) :
    (FloatOps.fptosi (F := Ideal) (φ := .f32) 32 q).setWidth 8 = FloatOps.fptosi (F := Ideal) (φ := .f32) 8 q := byte_of_code h
theorem word_byte {q : EReal} (h : ∃ k : ℤ, -127 ≤ k ∧ k ≤ 127 ∧ q = (((k : ℝ) : ℝ) : EReal)) :
    ((FloatOps.fptosi (F := Ideal) (φ := .f32) 32 q).setWidth 8).signExtend 32 = FloatOps.fptosi (F := Ideal) (φ := .f32) 32 q := word_of_byte h
theorem code_word {q : EReal} (h : ∃ k : ℤ, -127 ≤ k ∧ k ≤ 127 ∧ q = (((k : ℝ) : ℝ) : EReal)) :
    FloatOps.sitofp (F := Ideal) .f32 (((FloatOps.fptosi (F := Ideal) (φ := .f32) 32 q).setWidth 8).signExtend 32) = q := code_of_word h

theorem v15_at (i : S3x820x16x128.Idx) : val_main_v15 (F := Ideal) x i = gAc (F := Ideal) 8192 x (amaxOf x) i := by
  rw [val_main_v15_apply, val_main_v14_apply, v13_at, byte_code (aCode_int _ _), anchor_tok x _ _ _ _ (lt1 i)]
  rfl

theorem v20_at (i : S3x820x16x128.Idx) : val_main_v20 (F := Ideal) x i
    = deq (F := Ideal) (sc x (i 0).val (i 2).val (i 3).val) (grp x (i 0).val (i 1).val (i 2).val (i 3).val 0) := by
  have h19 : val_main_v19 (F := Ideal) x i = sc x (i 0).val (i 2).val (i 3).val := v10_at x i
  rw [val_main_v20_apply, val_main_v17_apply, val_main_v16_apply, val_main_v15_apply, val_main_v14_apply, h19, v13_at,
    code_word (aCode_int _ _), anchor_tok x _ _ _ _ (lt1 i)]
  rfl

/-! ## A group's value at its tokens -/

theorem spread_idx (i : S3x8192x16x128.Idx) :
    idx_main_v21 (idx_main_v22 (idx_main_v23 (idx_main_v24 i))) = at4 (i 0).val ((i 1).val / 10) (i 2).val (i 3).val := by
  have h0 := lt0 i; have h1 := lt1 i; have h2 := lt2 i; have h3 := lt3 i
  refine (at4_eq _ ?_ ?_ ?_ ?_).symm
  · show (i 0).val = ((((i 0).val * 8200 + (i 1).val) * 16 + (i 2).val) * 128 + (i 3).val) / 16793600; omega
  · show (i 1).val / 10 = ((((i 0).val * 8200 + (i 1).val) * 16 + (i 2).val) * 128 + (i 3).val) / 20480 % 820; omega
  · show (i 2).val = ((((i 0).val * 8200 + (i 1).val) * 16 + (i 2).val) * 128 + (i 3).val) / 128 % 16; omega
  · show (i 3).val = ((((i 0).val * 8200 + (i 1).val) * 16 + (i 2).val) * 128 + (i 3).val) % 128; omega

theorem at4_0 {n i0 i1 i2 i3 : ℕ} [NeZero n] (h : i0 < 3) : ((at4 i0 i1 i2 i3 : (⟨4, ![3, n, 16, 128]⟩ : Shape).Idx) 0).val = i0 := Nat.mod_eq_of_lt h
theorem at4_1 {n i0 i1 i2 i3 : ℕ} [NeZero n] (h : i1 < n) : ((at4 i0 i1 i2 i3 : (⟨4, ![3, n, 16, 128]⟩ : Shape).Idx) 1).val = i1 := Nat.mod_eq_of_lt h
theorem at4_2 {n i0 i1 i2 i3 : ℕ} [NeZero n] (h : i2 < 16) : ((at4 i0 i1 i2 i3 : (⟨4, ![3, n, 16, 128]⟩ : Shape).Idx) 2).val = i2 := Nat.mod_eq_of_lt h
theorem at4_3 {n i0 i1 i2 i3 : ℕ} [NeZero n] (h : i3 < 128) : ((at4 i0 i1 i2 i3 : (⟨4, ![3, n, 16, 128]⟩ : Shape).Idx) 3).val = i3 := Nat.mod_eq_of_lt h

theorem v24_at (i : S3x8192x16x128.Idx) : val_main_v24 (F := Ideal) x i
    = deq (F := Ideal) (sc x (i 0).val (i 2).val (i 3).val) (grp x (i 0).val ((i 1).val / 10) (i 2).val (i 3).val 0) := by
  have h0 := lt0 i; have h1 := lt1 i; have h2 := lt2 i; have h3 := lt3 i
  rw [val_main_v24_apply, val_main_v23_apply, val_main_v22_apply, val_main_v21_apply, spread_idx, v20_at,
    at4_0 h0, at4_1 (by omega), at4_2 h2, at4_3 h3]

theorem token_tok (i : S3x8192x16x128.Idx) : x i = grp x (i 0).val ((i 1).val / 10) (i 2).val (i 3).val ((i 1).val % 10) := by
  have h1 := lt1 i
  exact congrArg x (at4_eq i rfl (by omega) rfl rfl).symm

/-- The delta of a token: its distance from the decoded anchor of its group. -/
theorem v26_at (i : S3x8192x16x128.Idx) : val_main_v26 (F := Ideal) x i
    = grp x (i 0).val ((i 1).val / 10) (i 2).val (i 3).val ((i 1).val % 10)
      - deq (F := Ideal) (sc x (i 0).val (i 2).val (i 3).val) (grp x (i 0).val ((i 1).val / 10) (i 2).val (i 3).val 0) := by
  rw [val_main_v26_apply, v24_at, ← token_tok]
  rfl

/-! ## The deltas' scale -/

theorem v28_in (j : S3x8200x16x128.Idx) (h : (j 1).val < 8192) : val_main_v28 (F := Ideal) x j
    = val_main_v27 (F := Ideal) x (at4 (j 0).val (j 1).val (j 2).val (j 3).val) := by
  unfold val_main_v28
  refine pad_apply_of_inside _ _ _ _ _ _ _ j _ fun a => ?_
  match a with
  | ⟨0, _⟩ => show (j 0).val = 0 + (j 0).val % 3 * (0 + 1); rw [Nat.mod_eq_of_lt (lt0 j)]; omega
  | ⟨1, _⟩ => show (j 1).val = 0 + (j 1).val % 8192 * (0 + 1); rw [Nat.mod_eq_of_lt h]; omega
  | ⟨2, _⟩ => show (j 2).val = 0 + (j 2).val % 16 * (0 + 1); rw [Nat.mod_eq_of_lt (lt2 j)]; omega
  | ⟨3, _⟩ => show (j 3).val = 0 + (j 3).val % 128 * (0 + 1); rw [Nat.mod_eq_of_lt (lt3 j)]; omega

theorem v28_out (j : S3x8200x16x128.Idx) (h : ¬ (j 1).val < 8192) : val_main_v28 (F := Ideal) x j = (0 : EReal) := by
  unfold val_main_v28
  refine (pad_apply_of_not_inside _ _ _ _ _ _ _ j (1 : Fin 4) ?_).trans ?_
  · show ¬(0 ≤ (j 1).val ∧ ((j 1).val - 0) % (0 + 1) = 0 ∧ ((j 1).val - 0) / (0 + 1) < 8192)
    omega
  · show (((0#32 : BitVec 32).toInt : ℝ) : EReal) = 0
    simp

theorem red30 : (⟨5, ![3, 820, 10, 16, 128]⟩ : Shape).Reduces [2] ⟨4, ![3, 820, 16, 128]⟩ := by decide

theorem v29_idx (i : S3x820x16x128.Idx) (t : Fin 10) :
    ∃ j : S3x8200x16x128.Idx, idx_main_v29 (red30.lift i t) = j ∧ (j 0).val = (i 0).val ∧ (j 1).val = 10 * (i 1).val + t.val
      ∧ (j 2).val = (i 2).val ∧ (j 3).val = (i 3).val := by
  have h0 := lt0 i; have h1 := lt1 i; have h2 := lt2 i; have h3 := lt3 i; have h4 := t.isLt
  refine ⟨_, rfl, ?_, ?_, ?_, ?_⟩
  · show (((((i 0).val * 820 + (i 1).val) * 10 + t.val) * 16 + (i 2).val) * 128 + (i 3).val) / 16793600 = _; omega
  · show (((((i 0).val * 820 + (i 1).val) * 10 + t.val) * 16 + (i 2).val) * 128 + (i 3).val) / 2048 % 8200 = _; omega
  · show (((((i 0).val * 820 + (i 1).val) * 10 + t.val) * 16 + (i 2).val) * 128 + (i 3).val) / 128 % 16 = _; omega
  · show (((((i 0).val * 820 + (i 1).val) * 10 + t.val) * 16 + (i 2).val) * 128 + (i 3).val) % 128 = _; omega

/-- The scale's argument at a block, head and channel. -/
abbrev top (i h d : ℕ) : EReal := amaxOf x (at3 i h d)

theorem v27_at (i : S3x8192x16x128.Idx) (b g h d t : ℕ) (e0 : (i 0).val = b) (e1 : (i 1).val = 10 * g + t) (ht : t < 10) (e2 : (i 2).val = h)
    (e3 : (i 3).val = d) : val_main_v27 (F := Ideal) x i
    = max (grp x b g h d t - deq (F := Ideal) (aScale (F := Ideal) (top x b h d)) (grp x b g h d 0))
      (-(grp x b g h d t - deq (F := Ideal) (aScale (F := Ideal) (top x b h d)) (grp x b g h d 0))) := by
  rw [val_main_v27_apply, habs, v26_at, e0, e1, e2, e3, show (10 * g + t) / 10 = g from by omega, show (10 * g + t) % 10 = t from by omega]
  rfl

theorem v29_in (i : S3x820x16x128.Idx) (t : Fin 10) (hp : 10 * (i 1).val + t.val < 8192) :
    val_main_v29 (F := Ideal) x (red30.lift i t)
    = max (grp x (i 0).val (i 1).val (i 2).val (i 3).val t.val
          - deq (F := Ideal) (aScale (F := Ideal) (top x (i 0).val (i 2).val (i 3).val)) (grp x (i 0).val (i 1).val (i 2).val (i 3).val 0))
        (-(grp x (i 0).val (i 1).val (i 2).val (i 3).val t.val
          - deq (F := Ideal) (aScale (F := Ideal) (top x (i 0).val (i 2).val (i 3).val)) (grp x (i 0).val (i 1).val (i 2).val (i 3).val 0))) := by
  obtain ⟨j, e, e0, e1, e2, e3⟩ := v29_idx i t
  rw [val_main_v29_apply, e, v28_in x j (e1 ▸ hp)]
  exact v27_at x _ _ _ _ _ t.val ((at4_0 (lt0 j)).trans e0) ((at4_1 (e1 ▸ hp)).trans e1) t.isLt ((at4_2 (lt2 j)).trans e2) ((at4_3 (lt3 j)).trans e3)

theorem v29_out (i : S3x820x16x128.Idx) (t : Fin 10) (hp : ¬ 10 * (i 1).val + t.val < 8192) :
    val_main_v29 (F := Ideal) x (red30.lift i t) = (0 : EReal) := by
  obtain ⟨j, e, e0, e1, e2, e3⟩ := v29_idx i t
  rw [val_main_v29_apply, e]
  exact v28_out x j (e1 ▸ hp)

/-- Past the last token a group repeats it. -/
theorem grp_past (b g h d t : ℕ) (hg : g < 820) (ht : t ≤ 9) (hp : ¬ 10 * g + t < 8192) :
    ∃ s ≤ 9, 10 * g + s < 8192 ∧ grp x b g h d t = grp x b g h d s := by
  refine ⟨8191 - 10 * g, by omega, by omega, ?_⟩
  have e : min (10 * g + t % 10) (8192 - 1) = min (10 * g + (8191 - 10 * g) % 10) (8192 - 1) := by omega
  unfold grp tok
  rw [e]

theorem v30_at (i : S3x820x16x128.Idx) : val_main_v30 (F := Ideal) x i
    = gmax (F := Ideal) (sc x (i 0).val (i 2).val (i 3).val) (grp x (i 0).val (i 1).val (i 2).val (i 3).val) := by
  have h1 := lt1 i
  have key := fold_gmax (top x (i 0).val (i 2).val (i 3).val) (grp x (i 0).val (i 1).val (i 2).val (i 3).val)
    (fun t => 10 * (i 1).val + t < 8192) (fun t => val_main_v29 (F := Ideal) x (red30.lift i t)) (by show 10 * (i 1).val + 0 < 8192; omega)
    (fun t ht hp => grp_past x _ _ _ _ t h1 ht hp) (fun t hp => v29_in x i t hp) (fun t hp => v29_out x i t hp)
  unfold val_main_v30
  refine (Host.reduce_eq_fold_single (α := EReal) max _ _ _ red30 _ i).trans ?_
  rw [show val_main_cst_5 (F := Ideal) (Shape.Idx.first h_S_) = (⊥ : EReal) from bits_bot]
  exact key

theorem v35_at (i : S3x820x16x128.Idx) : val_main_v35 (F := Ideal) x i = gDs (F := Ideal) 8192 x (amaxOf x) i := by
  rw [val_main_v35_apply, val_main_v32_apply, val_main_v34_apply, v30_at, val_main_v31_apply, val_main_v33_apply, val_main_call4_v1_apply,
    val_main_call4_v0_apply, hdiv]
  unfold gDs dScale scaleOf
  rfl

theorem v39_at (i : S3x8192x16x128.Idx) : val_main_v39 (F := Ideal) x i
    = dScale (F := Ideal) (sc x (i 0).val (i 2).val (i 3).val) (grp x (i 0).val ((i 1).val / 10) (i 2).val (i 3).val) := by
  have h0 := lt0 i; have h1 := lt1 i; have h2 := lt2 i; have h3 := lt3 i
  rw [val_main_v39_apply, val_main_v38_apply, val_main_v37_apply, val_main_v36_apply,
    show idx_main_v36 (idx_main_v37 (idx_main_v38 (idx_main_v39 i))) = at4 (i 0).val ((i 1).val / 10) (i 2).val (i 3).val from spread_idx i, v35_at]
  unfold gDs
  rw [at4_0 h0, at4_1 (by omega), at4_2 h2, at4_3 h3]

/-! ## The deltas' codes and the decoded tokens -/

theorem v42_at (i : S3x8192x16x128.Idx) : val_main_v42 (F := Ideal) x i
    = dCode (F := Ideal) (sc x (i 0).val (i 2).val (i 3).val) (grp x (i 0).val ((i 1).val / 10) (i 2).val (i 3).val) ((i 1).val % 10) := by
  rw [val_main_v42_apply, val_main_call6_v2_apply, val_main_v41_apply, val_main_v40_apply, v39_at, v26_at, val_main_call6_v4_apply,
    val_main_call6_v1_apply, val_main_call6_v0_apply, val_main_call6_v3_apply, hdiv, hround]
  unfold dCode quant
  rfl

theorem v58_at (i : S3x8192x16x128.Idx) : val_main_v58 (F := Ideal) x i = gHat (F := Ideal) 8192 x (amaxOf x) i := by
  rw [val_main_v58_apply, val_main_v57_apply, val_main_v56_apply, val_main_v55_apply, val_main_v54_apply, val_main_v44_apply,
    val_main_v43_apply, v42_at, code_word (dCode_int _ _ _), v24_at, v39_at]
  rfl

theorem v47_at (i : S3x8192x16x128.Idx) : val_main_v47 (F := Ideal) x i
    = IntOp.andi (nib (F := Ideal) (sc x (i 0).val (i 2).val (i 3).val) (grp x (i 0).val ((i 1).val / 10) (i 2).val (i 3).val) ((i 1).val % 10)) 15#32 := by
  rw [val_main_v47_apply, val_main_v45_apply, val_main_v44_apply, val_main_v43_apply, v42_at, word_byte (dCode_int _ _ _), val_main_v46_apply]
  rfl

theorem v48_at (i : S3x4096x16x128.Idx) : val_main_v48 (F := Ideal) x i
    = val_main_v47 (F := Ideal) x (at4 (i 0).val (2 * (i 1).val) (i 2).val (i 3).val) := by
  refine congrArg (val_main_v47 (F := Ideal) x) (Eq.symm (at4_eq _ ?_ ?_ ?_ ?_))
  · show (i 0).val = 0 + 1 * (i 0).val; omega
  · show 2 * (i 1).val = 0 + 2 * (i 1).val; omega
  · show (i 2).val = 0 + 1 * (i 2).val; omega
  · show (i 3).val = 0 + 1 * (i 3).val; omega

theorem v49_at (i : S3x4096x16x128.Idx) : val_main_v49 (F := Ideal) x i
    = val_main_v47 (F := Ideal) x (at4 (i 0).val (2 * (i 1).val + 1) (i 2).val (i 3).val) := by
  refine congrArg (val_main_v47 (F := Ideal) x) (Eq.symm (at4_eq _ ?_ ?_ ?_ ?_))
  · show (i 0).val = 0 + 1 * (i 0).val; omega
  · show 2 * (i 1).val + 1 = 1 + 2 * (i 1).val; omega
  · show (i 2).val = 0 + 1 * (i 2).val; omega
  · show (i 3).val = 0 + 1 * (i 3).val; omega

theorem v53_at (i : S3x4096x16x128.Idx) : val_main_v53 (F := Ideal) x i = gDc (F := Ideal) 8192 x (amaxOf x) i := by
  have h0 := lt0 i; have h1 := lt1 i; have h2 := lt2 i; have h3 := lt3 i
  rw [val_main_v53_apply, val_main_v52_apply, val_main_v51_apply, v48_at, v49_at, v47_at, v47_at, val_main_v50_apply, at4_0 h0, at4_1 (by omega), at4_1 (by omega), at4_2 h2, at4_3 h3,
    at4_0 h0, at4_2 h2, at4_3 h3,
    show 2 * (i 1).val / 10 = (i 1).val / 5 from by omega, show 2 * (i 1).val % 10 = 2 * ((i 1).val % 5) from by omega,
    show (2 * (i 1).val + 1) / 10 = (i 1).val / 5 from by omega, show (2 * (i 1).val + 1) % 10 = 2 * ((i 1).val % 5) + 1 from by omega]
  rfl

end Cert.RefRead
-- ==== Proof.RefRun.lean ====
/-
  THE REFERENCE'S RUN at the ideal values: its ten results end as the closed forms `gHat`, `gAc`, `gAs`, `gDc`, `gDs` of its
  arguments, the arguments unchanged.
-/
module

public import proofs.«01_k».proof.Proof.RefRead
public import proofs.«01_k».proof.Proof.Gen.ReferenceIdeal.Run

@[expose] public section

set_option maxRecDepth 16384

noncomputable section

namespace Cert.RefRead

open Cert.Codec Idealize.ShloMosaic Idealize.SL.Sem Cert.ReferenceIdeal Cert.ReferenceIdeal.Gen Cert.ReferenceIdeal.Read

attribute [local irreducible] amaxUpTo amaxOf

variable (x : Tokens)

theorem v58_all : val_main_v58 (F := Ideal) x = gHat (F := Ideal) 8192 x (amaxOf x) := funext (v58_at x)
theorem v15_all : val_main_v15 (F := Ideal) x = gAc (F := Ideal) 8192 x (amaxOf x) := funext (v15_at x)
theorem v8_all : val_main_v8 (F := Ideal) x = gAs (F := Ideal) (amaxOf x) := funext (v8_at x)
theorem v53_all : val_main_v53 (F := Ideal) x = gDc (F := Ideal) 8192 x (amaxOf x) := funext (v53_at x)
theorem v35_all : val_main_v35 (F := Ideal) x = gDs (F := Ideal) 8192 x (amaxOf x) := funext (v35_at x)

theorem v117_all : val_main_v117 (F := Ideal) x = gHat (F := Ideal) 8192 x (amaxOf x) := by
  rw [same_58]; exact v58_all x
theorem v74_all : val_main_v74 (F := Ideal) x = gAc (F := Ideal) 8192 x (amaxOf x) := by
  rw [same_15]; exact v15_all x
theorem v67_all : val_main_v67 (F := Ideal) x = gAs (F := Ideal) (amaxOf x) := by
  rw [same_8]; exact v8_all x
theorem v112_all : val_main_v112 (F := Ideal) x = gDc (F := Ideal) 8192 x (amaxOf x) := by
  rw [same_53]; exact v53_all x
theorem v94_all : val_main_v94 (F := Ideal) x = gDs (F := Ideal) 8192 x (amaxOf x) := by
  rw [same_35]; exact v35_all x

variable (m : (ℓ : Loc nD τ sig) → Buf (Elt Ideal) ℓ)

/-- The reference's two arguments. -/
abbrev refA (c : Dev nD) : Tokens := m ((c.tc : Thread nD τ).loc main_arg0)
abbrev refB (c : Dev nD) : Tokens := m ((c.tc : Thread nD τ).loc main_arg1)

theorem ref_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v58) = gHat (F := Ideal) (q := 8192) 8192 (refA m c) (amaxOf (refA m c))
      ∧ r.2.mem ((c.tc : Thread nD τ).loc main_v117) = gHat (F := Ideal) (q := 8192) 8192 (refB m c) (amaxOf (refB m c))
      ∧ r.2.mem ((c.tc : Thread nD τ).loc main_v15) = gAc (F := Ideal) (q := 820) 8192 (refA m c) (amaxOf (refA m c))
      ∧ r.2.mem ((c.tc : Thread nD τ).loc main_v8) = gAs (F := Ideal) (amaxOf (refA m c))
      ∧ r.2.mem ((c.tc : Thread nD τ).loc main_v53) = gDc (F := Ideal) (q := 4096) 8192 (refA m c) (amaxOf (refA m c))
      ∧ r.2.mem ((c.tc : Thread nD τ).loc main_v35) = gDs (F := Ideal) (q := 820) 8192 (refA m c) (amaxOf (refA m c))
      ∧ r.2.mem ((c.tc : Thread nD τ).loc main_v74) = gAc (F := Ideal) (q := 820) 8192 (refB m c) (amaxOf (refB m c))
      ∧ r.2.mem ((c.tc : Thread nD τ).loc main_v67) = gAs (F := Ideal) (amaxOf (refB m c))
      ∧ r.2.mem ((c.tc : Thread nD τ).loc main_v112) = gDc (F := Ideal) (q := 4096) 8192 (refB m c) (amaxOf (refB m c))
      ∧ r.2.mem ((c.tc : Thread nD τ).loc main_v94) = gDs (F := Ideal) (q := 820) 8192 (refB m c) (amaxOf (refB m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run (defs (F := Ideal)) _ _).mono (fun r h c => ?_) (Cert.ReferenceIdeal.Value.run (F := Ideal) m ρ)
  obtain ⟨h58, h117, h15, h8, h53, h35, h74, h67, h112, h94, ha, hb⟩ := h c
  refine ⟨?_, ?_, ?_, ?_, ?_, ?_, ?_, ?_, ?_, ?_, ha, hb⟩
  · exact h58.trans ((val_main_v58_eq m c).trans (v58_all (refA m c)))
  · exact h117.trans ((val_main_v117_eq m c).trans (v117_all (refB m c)))
  · exact h15.trans ((val_main_v15_eq _).trans (v15_all (refA m c)))
  · exact h8.trans ((val_main_v8_eq _).trans (v8_all (refA m c)))
  · exact h53.trans ((val_main_v53_eq m c).trans (v53_all (refA m c)))
  · exact h35.trans ((val_main_v35_eq m c).trans (v35_all (refA m c)))
  · exact h74.trans ((val_main_v74_eq _).trans (v74_all (refB m c)))
  · exact h67.trans ((val_main_v67_eq _).trans (v67_all (refB m c)))
  · exact h112.trans ((val_main_v112_eq m c).trans (v112_all (refB m c)))
  · exact h94.trans ((val_main_v94_eq m c).trans (v94_all (refB m c)))

end Cert.RefRead
-- ==== Proof.Alg.lean ====
/-
  THE ALGEBRAIC CLAIM: at the ideal values both programs end with the same ten arrays, each a closed form of its argument.
-/
module

public import proofs.«01_k».proof.Defs
public import proofs.«01_k».proof.Proof.Run
public import proofs.«01_k».proof.Proof.RefRun

@[expose] public section

set_option maxRecDepth 16384

noncomputable section

namespace Cert.Alg

open Cert.Codec Cert.RefRead Idealize.ShloMosaic Idealize.ShloMosaic.TcCoe Idealize.SL.Sem

attribute [local irreducible] amaxUpTo

/-! ## The five arrays an argument `x` gives: decoded tokens, anchor codes, anchor scales, packed delta codes, delta scales -/

def fHat (x : Tokens) : (⟨4, ![3, 8192, 16, 128]⟩ : Shape).Idx → EReal := gHat (F := Ideal) (q := 8192) 8192 x (amaxOf x)
def fAc (x : Tokens) : (⟨4, ![3, 820, 16, 128]⟩ : Shape).Idx → BitVec 8 := gAc (F := Ideal) (q := 820) 8192 x (amaxOf x)
def fAs (x : Tokens) : (⟨3, ![3, 16, 128]⟩ : Shape).Idx → EReal := gAs (F := Ideal) (amaxOf x)
def fDc (x : Tokens) : (⟨4, ![3, 4096, 16, 128]⟩ : Shape).Idx → BitVec 8 := gDc (F := Ideal) (q := 4096) 8192 x (amaxOf x)
def fDs (x : Tokens) : (⟨4, ![3, 820, 16, 128]⟩ : Shape).Idx → EReal := gDs (F := Ideal) (q := 820) 8192 x (amaxOf x)

section
open Cert.KernelIdeal
variable (m : (ℓ : Loc nD τ sig) → Buf (Elt Ideal) ℓ) (c : Dev nD)

theorem amax_same (x : Tokens) : amaxAll (F := Ideal) x = amaxOf x := rfl

/-- The kernel's two arguments. -/
abbrev kerA : Tokens := m ((c.tc : Thread nD τ).loc main_arg0)
abbrev kerB : Tokens := m ((c.tc : Thread nD τ).loc main_arg1)

theorem arg0_eq : arg0 (F := Ideal) m c = kerA m c := rfl
theorem arg1_eq : arg1 (F := Ideal) m c = kerB m c := rfl

theorem out_v1_0 : ends (F := Ideal) m c main_v1_0 = fHat (kerA m c) := by
  rw [ends_v1_0, amax_same, arg0_eq]; rfl
theorem out_v3_0 : ends (F := Ideal) m c main_v3_0 = fHat (kerB m c) := by
  rw [ends_v3_0, amax_same, arg1_eq]; rfl
theorem out_v1_1 : ends (F := Ideal) m c main_v1_1 = fAc (kerA m c) := by
  rw [ends_v1_1, amax_same, arg0_eq]; rfl
theorem out_v1_2 : ends (F := Ideal) m c main_v1_2 = fAs (kerA m c) := by
  rw [ends_v1_2, amax_same, arg0_eq]; rfl
theorem out_v1_3 : ends (F := Ideal) m c main_v1_3 = fDc (kerA m c) := by
  rw [ends_v1_3, amax_same, arg0_eq]; rfl
theorem out_v1_4 : ends (F := Ideal) m c main_v1_4 = fDs (kerA m c) := by
  rw [ends_v1_4, amax_same, arg0_eq]; rfl
theorem out_v3_1 : ends (F := Ideal) m c main_v3_1 = fAc (kerB m c) := by
  rw [ends_v3_1, amax_same, arg1_eq]; rfl
theorem out_v3_2 : ends (F := Ideal) m c main_v3_2 = fAs (kerB m c) := by
  rw [ends_v3_2, amax_same, arg1_eq]; rfl
theorem out_v3_3 : ends (F := Ideal) m c main_v3_3 = fDc (kerB m c) := by
  rw [ends_v3_3, amax_same, arg1_eq]; rfl
theorem out_v3_4 : ends (F := Ideal) m c main_v3_4 = fDs (kerB m c) := by
  rw [ends_v3_4, amax_same, arg1_eq]; rfl
end

theorem algebraic : Cert.algebraic_KernelIdeal_ReferenceIdeal := by
  intro m g m' g' _ hag
  have hA : ∀ c, refA m' c = kerA m c := fun c => (hag c).1
  have hB : ∀ c, refB m' c = kerB m c := fun c => (hag c).2
  refine ⟨fun c => fHat (kerA m c), fun c => fHat (kerB m c), fun c => fAc (kerA m c), fun c => fAs (kerA m c), fun c => fDc (kerA m c), fun c => fDs (kerA m c), fun c => fAc (kerB m c), fun c => fAs (kerB m c), fun c => fDc (kerB m c), fun c => fDs (kerB m c), ?_, ?_⟩
  · refine (θ_run (Cert.KernelIdeal.defs (F := Ideal)) _ _).mono (fun r h c => ?_) (run_all (F := Ideal) m g)
    obtain ⟨ha, hb, h0, h1, h2, h3, h4, h5, h6, h7, h8, h9⟩ := h.1 c
    exact ⟨h0.trans (out_v1_0 m c), h1.trans (out_v3_0 m c), h2.trans (out_v1_1 m c), h3.trans (out_v1_2 m c), h4.trans (out_v1_3 m c), h5.trans (out_v1_4 m c), h6.trans (out_v3_1 m c), h7.trans (out_v3_2 m c), h8.trans (out_v3_3 m c), h9.trans (out_v3_4 m c), ha, hb⟩
  · refine (θ_run (Cert.ReferenceIdeal.defs (F := Ideal)) _ _).mono (fun r h c => ?_) (ref_run m' g')
    obtain ⟨h0, h1, h2, h3, h4, h5, h6, h7, h8, h9, ha, hb⟩ := h c
    exact ⟨h0.trans (congrArg fHat (hA c)), h1.trans (congrArg fHat (hB c)), h2.trans (congrArg fAc (hA c)), h3.trans (congrArg fAs (hA c)), h4.trans (congrArg fDc (hA c)), h5.trans (congrArg fDs (hA c)), h6.trans (congrArg fAc (hB c)), h7.trans (congrArg fAs (hB c)), h8.trans (congrArg fDc (hB c)), h9.trans (congrArg fDs (hB c)), ha, hb⟩

end Cert.Alg
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Codec.frame_bits, Cert.Codec.frame_ideal, Cert.Codec.frame_ref, trivial, Cert.Alg.algebraic⟩

end Cert.Proof

end
